-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2048x512 : Shape := ⟨2, ![2048, 512]⟩
abbrev S256x512 : Shape := ⟨2, ![256, 512]⟩
abbrev S3x256x512 : Shape := ⟨3, ![3, 256, 512]⟩
abbrev S24 : Shape := ⟨1, ![24]⟩
abbrev S13 : Shape := ⟨1, ![13]⟩
abbrev S_ : Shape := ⟨0, ![]⟩
abbrev S1 : Shape := ⟨1, ![1]⟩
abbrev S1x32x512 : Shape := ⟨3, ![1, 32, 512]⟩
abbrev S32x512 : Shape := ⟨2, ![32, 512]⟩
abbrev S1x256x512 : Shape := ⟨3, ![1, 256, 512]⟩

abbrev nBuf : Space → Nat
  | .hbm => 2
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S2048x512, .f32⟩
  | .local _ .vmem, ⟨0, _⟩ => ⟨S512x512, .f32⟩
  | .local _ .vmem, ⟨1, _⟩ => ⟨S2048x512, .f32⟩
  | .local _ .vmem, ⟨2, _⟩ => ⟨S256x512, .f32⟩
  | .local _ .vmem, ⟨3, _⟩ => ⟨S3x256x512, .f32⟩
  | .local _ .vmem, ⟨4, _⟩ => ⟨S3x256x512, .f32⟩
  | .local _ .vmem, ⟨5, _⟩ => ⟨S3x256x512, .f32⟩
  | .local _ .vmem, ⟨6, _⟩ => ⟨S3x256x512, .f32⟩
  | _, _ => ⟨S512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 207 → Bool
  | ⟨i, _⟩ => dmaSemScopedAt i

abbrev sig : RefSig :=
  (ofTc nBuf bufTy 1 207 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let v23 : BitVec 32 := Scalar.extui v14
  let c0_i32_11 : BitVec 32 := 0#32
  let v24 : BitVec 1 := Scalar.cmpi .ne v23 c0_i32_11
  v24

def k0_dev1 (d0 : Dev nD) : Nat :=
  let c0_i32_1924 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1923 : BitVec 32 := 16#32
  let v1175 : BitVec 32 := Scalar.muli v2 c16_i32_1923
  let v1176 : BitVec 32 := Scalar.addi c0_i32_1924 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1925 : BitVec 32 := 4#32
  let v1177 : BitVec 32 := Scalar.muli v10 c4_i32_1925
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1926 : BitVec 32 := 1#32
  let v1179 : BitVec 32 := Scalar.muli v8 c1_i32_1926
  let v1180 : BitVec 32 := Scalar.addi v1178 v1179
  v1180.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let v25 : BitVec 32 := Scalar.extui v15
  let c0_i32_12 : BitVec 32 := 0#32
  let v26 : BitVec 1 := Scalar.cmpi .ne v25 c0_i32_12
  v26

def k0_dev2 (d0 : Dev nD) : Nat :=
  let c0_i32_1924 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1923 : BitVec 32 := 16#32
  let v1175 : BitVec 32 := Scalar.muli v2 c16_i32_1923
  let v1176 : BitVec 32 := Scalar.addi c0_i32_1924 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1925 : BitVec 32 := 4#32
  let v1177 : BitVec 32 := Scalar.muli v12 c4_i32_1925
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1926 : BitVec 32 := 1#32
  let v1179 : BitVec 32 := Scalar.muli v8 c1_i32_1926
  let v1180 : BitVec 32 := Scalar.addi v1178 v1179
  v1180.toNat
def k0_dev3 (d0 : Dev nD) : Nat :=
  let c0_i32_16 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_15 : BitVec 32 := 16#32
  let v28 : BitVec 32 := Scalar.muli v13 c16_i32_15
  let v29 : BitVec 32 := Scalar.addi c0_i32_16 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v30 : BitVec 32 := Scalar.muli v5 c4_i32_17
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v32 : BitVec 32 := Scalar.muli v8 c1_i32_18
  let v33 : BitVec 32 := Scalar.addi v31 v32
  v33.toNat
def k0_amt1 (d0 : Dev nD) : BitVec 32 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_7 : BitVec 32 := 0#32
  let v16 : BitVec 1 := Scalar.cmpi .eq v5 c0_i32_7
  let c3_i32_8 : BitVec 32 := 3#32
  let v17 : BitVec 1 := Scalar.cmpi .eq v5 c3_i32_8
  let v18 : BitVec 1 := Scalar.ori v16 v17
  let c2_i32_13 : BitVec 32 := 2#32
  let c1_i32_14 : BitVec 32 := 1#32
  let v27 : BitVec 32 := Scalar.select v18 c2_i32_13 c1_i32_14
  v27

def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v34 : Index := Scalar.indexCast v19
  let c0 : Index := 0#32
  ![v34.toNat, 0]
def k0_off2 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32 : BitVec 32 := 512#32
  let v40 : BitVec 32 := Scalar.muli v5 c512_i32
  let c0_i32_22 : BitVec 32 := 0#32
  ![v40.toNat, 0]
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c0_i32_24 : BitVec 32 := 0#32
  let v44 : BitVec 1 := Scalar.cmpi .sge v5 c0_i32_24
  let v45 : BitVec 1 := Scalar.andi v14 v44
  let v46 : BitVec 32 := Scalar.extui v45
  let c0_i32_28 : BitVec 32 := 0#32
  let v47 : BitVec 1 := Scalar.cmpi .ne v46 c0_i32_28
  v47

def k0_dev4 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c0_i32_29 : BitVec 32 := 0#32
  let v48 : BitVec 32 := Scalar.addi v5 c0_i32_29
  let c3_i32_30 : BitVec 32 := 3#32
  let v49 : BitVec 1 := Scalar.cmpi .sle v48 c3_i32_30
  let v50 : BitVec 1 := Scalar.andi v15 v49
  let v51 : BitVec 32 := Scalar.extui v50
  let c0_i32_34 : BitVec 32 := 0#32
  let v52 : BitVec 1 := Scalar.cmpi .ne v51 c0_i32_34
  v52

def k0_dev5 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c0_i32_35 : BitVec 32 := 0#32
  let v53 : BitVec 1 := Scalar.cmpi .sge v5 c0_i32_35
  let v54 : BitVec 1 := Scalar.andi v14 v53
  let v55 : BitVec 32 := Scalar.extui v54
  let c0_i32_39 : BitVec 32 := 0#32
  let v56 : BitVec 1 := Scalar.cmpi .ne v55 c0_i32_39
  v56

def k0_dev6 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c0_i32_40 : BitVec 32 := 0#32
  let v57 : BitVec 32 := Scalar.addi v5 c0_i32_40
  let c3_i32_41 : BitVec 32 := 3#32
  let v58 : BitVec 1 := Scalar.cmpi .sle v57 c3_i32_41
  let v59 : BitVec 1 := Scalar.andi v15 v58
  let v60 : BitVec 32 := Scalar.extui v59
  let c0_i32_45 : BitVec 32 := 0#32
  let v61 : BitVec 1 := Scalar.cmpi .ne v60 c0_i32_45
  v61

def k0_dev7 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c0_i32_46 : BitVec 32 := 0#32
  let v62 : BitVec 1 := Scalar.cmpi .sge v5 c0_i32_46
  let v63 : BitVec 1 := Scalar.andi v14 v62
  let v64 : BitVec 32 := Scalar.extui v63
  let c0_i32_50 : BitVec 32 := 0#32
  let v65 : BitVec 1 := Scalar.cmpi .ne v64 c0_i32_50
  v65

def k0_dev8 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c0_i32_51 : BitVec 32 := 0#32
  let v66 : BitVec 32 := Scalar.addi v5 c0_i32_51
  let c3_i32_52 : BitVec 32 := 3#32
  let v67 : BitVec 1 := Scalar.cmpi .sle v66 c3_i32_52
  let v68 : BitVec 1 := Scalar.andi v15 v67
  let v69 : BitVec 32 := Scalar.extui v68
  let c0_i32_56 : BitVec 32 := 0#32
  let v70 : BitVec 1 := Scalar.cmpi .ne v69 c0_i32_56
  v70

def k0_dev9 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c0_i32_57 : BitVec 32 := 0#32
  let v71 : BitVec 1 := Scalar.cmpi .sge v5 c0_i32_57
  let v72 : BitVec 1 := Scalar.andi v14 v71
  let v73 : BitVec 32 := Scalar.extui v72
  let c0_i32_61 : BitVec 32 := 0#32
  let v74 : BitVec 1 := Scalar.cmpi .ne v73 c0_i32_61
  v74

def k0_dev10 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c0_i32_62 : BitVec 32 := 0#32
  let v75 : BitVec 32 := Scalar.addi v5 c0_i32_62
  let c3_i32_63 : BitVec 32 := 3#32
  let v76 : BitVec 1 := Scalar.cmpi .sle v75 c3_i32_63
  let v77 : BitVec 1 := Scalar.andi v15 v76
  let v78 : BitVec 32 := Scalar.extui v77
  let c0_i32_67 : BitVec 32 := 0#32
  let v79 : BitVec 1 := Scalar.cmpi .ne v78 c0_i32_67
  v79

def k0_dev11 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c0_i32_68 : BitVec 32 := 0#32
  let v80 : BitVec 1 := Scalar.cmpi .sge v5 c0_i32_68
  let v81 : BitVec 1 := Scalar.andi v14 v80
  let v82 : BitVec 32 := Scalar.extui v81
  let c0_i32_72 : BitVec 32 := 0#32
  let v83 : BitVec 1 := Scalar.cmpi .ne v82 c0_i32_72
  v83

def k0_dev12 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c0_i32_73 : BitVec 32 := 0#32
  let v84 : BitVec 32 := Scalar.addi v5 c0_i32_73
  let c3_i32_74 : BitVec 32 := 3#32
  let v85 : BitVec 1 := Scalar.cmpi .sle v84 c3_i32_74
  let v86 : BitVec 1 := Scalar.andi v15 v85
  let v87 : BitVec 32 := Scalar.extui v86
  let c0_i32_78 : BitVec 32 := 0#32
  let v88 : BitVec 1 := Scalar.cmpi .ne v87 c0_i32_78
  v88

def k0_dev13 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c0_i32_79 : BitVec 32 := 0#32
  let v89 : BitVec 1 := Scalar.cmpi .sge v5 c0_i32_79
  let v90 : BitVec 1 := Scalar.andi v14 v89
  let v91 : BitVec 32 := Scalar.extui v90
  let c0_i32_82 : BitVec 32 := 0#32
  let v92 : BitVec 1 := Scalar.cmpi .ne v91 c0_i32_82
  v92

def k0_dev14 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c0_i32_83 : BitVec 32 := 0#32
  let v93 : BitVec 32 := Scalar.addi v5 c0_i32_83
  let c3_i32_84 : BitVec 32 := 3#32
  let v94 : BitVec 1 := Scalar.cmpi .sle v93 c3_i32_84
  let v95 : BitVec 1 := Scalar.andi v15 v94
  let v96 : BitVec 32 := Scalar.extui v95
  let c0_i32_88 : BitVec 32 := 0#32
  let v97 : BitVec 1 := Scalar.cmpi .ne v96 c0_i32_88
  v97

def k0_dev15 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c0_i32_89 : BitVec 32 := 0#32
  let v98 : BitVec 1 := Scalar.cmpi .sge v5 c0_i32_89
  let v99 : BitVec 1 := Scalar.andi v14 v98
  let v100 : BitVec 32 := Scalar.extui v99
  let c0_i32_92 : BitVec 32 := 0#32
  let v101 : BitVec 1 := Scalar.cmpi .ne v100 c0_i32_92
  v101

def k0_dev16 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c0_i32_93 : BitVec 32 := 0#32
  let v102 : BitVec 32 := Scalar.addi v5 c0_i32_93
  let c3_i32_94 : BitVec 32 := 3#32
  let v103 : BitVec 1 := Scalar.cmpi .sle v102 c3_i32_94
  let v104 : BitVec 1 := Scalar.andi v15 v103
  let v105 : BitVec 32 := Scalar.extui v104
  let c0_i32_98 : BitVec 32 := 0#32
  let v106 : BitVec 1 := Scalar.cmpi .ne v105 c0_i32_98
  v106

def k0_dev17 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c0_i32_99 : BitVec 32 := 0#32
  let v107 : BitVec 1 := Scalar.cmpi .sge v5 c0_i32_99
  let v108 : BitVec 1 := Scalar.andi v14 v107
  let v109 : BitVec 32 := Scalar.extui v108
  let c0_i32_102 : BitVec 32 := 0#32
  let v110 : BitVec 1 := Scalar.cmpi .ne v109 c0_i32_102
  v110

def k0_dev18 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c0_i32_103 : BitVec 32 := 0#32
  let v111 : BitVec 32 := Scalar.addi v5 c0_i32_103
  let c3_i32_104 : BitVec 32 := 3#32
  let v112 : BitVec 1 := Scalar.cmpi .sle v111 c3_i32_104
  let v113 : BitVec 1 := Scalar.andi v15 v112
  let v114 : BitVec 32 := Scalar.extui v113
  let c0_i32_108 : BitVec 32 := 0#32
  let v115 : BitVec 1 := Scalar.cmpi .ne v114 c0_i32_108
  v115

def k0_dev19 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c1_i32_150 : BitVec 32 := 1#32
  let v167 : BitVec 1 := Scalar.cmpi .sge v5 c1_i32_150
  let v168 : BitVec 1 := Scalar.andi v14 v167
  let v169 : BitVec 32 := Scalar.extui v168
  let c0_i32_154 : BitVec 32 := 0#32
  let v170 : BitVec 1 := Scalar.cmpi .ne v169 c0_i32_154
  v170

def k0_dev20 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_155 : BitVec 32 := 1#32
  let v171 : BitVec 1 := Scalar.cmpi .sge v5 c1_i32_155
  let v172 : BitVec 32 := Scalar.extui v171
  let c0_i32_160 : BitVec 32 := 0#32
  let v173 : BitVec 1 := Scalar.cmpi .ne v172 c0_i32_160
  v173

def k0_dev21 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c1_i32_168 : BitVec 32 := 1#32
  let v179 : BitVec 32 := Scalar.addi v5 c1_i32_168
  let c3_i32_169 : BitVec 32 := 3#32
  let v180 : BitVec 1 := Scalar.cmpi .sle v179 c3_i32_169
  let v181 : BitVec 1 := Scalar.andi v15 v180
  let v182 : BitVec 32 := Scalar.extui v181
  let c0_i32_174 : BitVec 32 := 0#32
  let v183 : BitVec 1 := Scalar.cmpi .ne v182 c0_i32_174
  v183

def k0_dev22 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_175 : BitVec 32 := 1#32
  let v184 : BitVec 32 := Scalar.addi v5 c1_i32_175
  let c0_i32_176 : BitVec 32 := 0#32
  let v185 : BitVec 32 := Scalar.addi v184 c0_i32_176
  let c3_i32_177 : BitVec 32 := 3#32
  let v186 : BitVec 1 := Scalar.cmpi .sle v185 c3_i32_177
  let v187 : BitVec 32 := Scalar.extui v186
  let c0_i32_182 : BitVec 32 := 0#32
  let v188 : BitVec 1 := Scalar.cmpi .ne v187 c0_i32_182
  v188

def k0_dev23 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c1_i32_188 : BitVec 32 := 1#32
  let v192 : BitVec 1 := Scalar.cmpi .sge v5 c1_i32_188
  let v193 : BitVec 1 := Scalar.andi v14 v192
  let v194 : BitVec 32 := Scalar.extui v193
  let c0_i32_192 : BitVec 32 := 0#32
  let v195 : BitVec 1 := Scalar.cmpi .ne v194 c0_i32_192
  v195

def k0_dev24 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v196 : BitVec 1 := Scalar.cmpi .sge v5 c1_i32_193
  let v197 : BitVec 32 := Scalar.extui v196
  let c0_i32_198 : BitVec 32 := 0#32
  let v198 : BitVec 1 := Scalar.cmpi .ne v197 c0_i32_198
  v198

def k0_dev25 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c1_i32_206 : BitVec 32 := 1#32
  let v204 : BitVec 32 := Scalar.addi v5 c1_i32_206
  let c3_i32_207 : BitVec 32 := 3#32
  let v205 : BitVec 1 := Scalar.cmpi .sle v204 c3_i32_207
  let v206 : BitVec 1 := Scalar.andi v15 v205
  let v207 : BitVec 32 := Scalar.extui v206
  let c0_i32_212 : BitVec 32 := 0#32
  let v208 : BitVec 1 := Scalar.cmpi .ne v207 c0_i32_212
  v208

def k0_dev26 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_213 : BitVec 32 := 1#32
  let v209 : BitVec 32 := Scalar.addi v5 c1_i32_213
  let c0_i32_214 : BitVec 32 := 0#32
  let v210 : BitVec 32 := Scalar.addi v209 c0_i32_214
  let c3_i32_215 : BitVec 32 := 3#32
  let v211 : BitVec 1 := Scalar.cmpi .sle v210 c3_i32_215
  let v212 : BitVec 32 := Scalar.extui v211
  let c0_i32_220 : BitVec 32 := 0#32
  let v213 : BitVec 1 := Scalar.cmpi .ne v212 c0_i32_220
  v213

def k0_dev27 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c1_i32_226 : BitVec 32 := 1#32
  let v217 : BitVec 1 := Scalar.cmpi .sge v5 c1_i32_226
  let v218 : BitVec 1 := Scalar.andi v14 v217
  let v219 : BitVec 32 := Scalar.extui v218
  let c0_i32_230 : BitVec 32 := 0#32
  let v220 : BitVec 1 := Scalar.cmpi .ne v219 c0_i32_230
  v220

def k0_dev28 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_231 : BitVec 32 := 1#32
  let v221 : BitVec 1 := Scalar.cmpi .sge v5 c1_i32_231
  let v222 : BitVec 32 := Scalar.extui v221
  let c0_i32_236 : BitVec 32 := 0#32
  let v223 : BitVec 1 := Scalar.cmpi .ne v222 c0_i32_236
  v223

def k0_dev29 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c1_i32_244 : BitVec 32 := 1#32
  let v229 : BitVec 32 := Scalar.addi v5 c1_i32_244
  let c3_i32_245 : BitVec 32 := 3#32
  let v230 : BitVec 1 := Scalar.cmpi .sle v229 c3_i32_245
  let v231 : BitVec 1 := Scalar.andi v15 v230
  let v232 : BitVec 32 := Scalar.extui v231
  let c0_i32_250 : BitVec 32 := 0#32
  let v233 : BitVec 1 := Scalar.cmpi .ne v232 c0_i32_250
  v233

def k0_dev30 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_251 : BitVec 32 := 1#32
  let v234 : BitVec 32 := Scalar.addi v5 c1_i32_251
  let c0_i32_252 : BitVec 32 := 0#32
  let v235 : BitVec 32 := Scalar.addi v234 c0_i32_252
  let c3_i32_253 : BitVec 32 := 3#32
  let v236 : BitVec 1 := Scalar.cmpi .sle v235 c3_i32_253
  let v237 : BitVec 32 := Scalar.extui v236
  let c0_i32_258 : BitVec 32 := 0#32
  let v238 : BitVec 1 := Scalar.cmpi .ne v237 c0_i32_258
  v238

def k0_dev31 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c1_i32_264 : BitVec 32 := 1#32
  let v242 : BitVec 1 := Scalar.cmpi .sge v5 c1_i32_264
  let v243 : BitVec 1 := Scalar.andi v14 v242
  let v244 : BitVec 32 := Scalar.extui v243
  let c0_i32_268 : BitVec 32 := 0#32
  let v245 : BitVec 1 := Scalar.cmpi .ne v244 c0_i32_268
  v245

def k0_dev32 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_269 : BitVec 32 := 1#32
  let v246 : BitVec 1 := Scalar.cmpi .sge v5 c1_i32_269
  let v247 : BitVec 32 := Scalar.extui v246
  let c0_i32_274 : BitVec 32 := 0#32
  let v248 : BitVec 1 := Scalar.cmpi .ne v247 c0_i32_274
  v248

def k0_dev33 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c1_i32_282 : BitVec 32 := 1#32
  let v254 : BitVec 32 := Scalar.addi v5 c1_i32_282
  let c3_i32_283 : BitVec 32 := 3#32
  let v255 : BitVec 1 := Scalar.cmpi .sle v254 c3_i32_283
  let v256 : BitVec 1 := Scalar.andi v15 v255
  let v257 : BitVec 32 := Scalar.extui v256
  let c0_i32_288 : BitVec 32 := 0#32
  let v258 : BitVec 1 := Scalar.cmpi .ne v257 c0_i32_288
  v258

def k0_dev34 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_289 : BitVec 32 := 1#32
  let v259 : BitVec 32 := Scalar.addi v5 c1_i32_289
  let c0_i32_290 : BitVec 32 := 0#32
  let v260 : BitVec 32 := Scalar.addi v259 c0_i32_290
  let c3_i32_291 : BitVec 32 := 3#32
  let v261 : BitVec 1 := Scalar.cmpi .sle v260 c3_i32_291
  let v262 : BitVec 32 := Scalar.extui v261
  let c0_i32_296 : BitVec 32 := 0#32
  let v263 : BitVec 1 := Scalar.cmpi .ne v262 c0_i32_296
  v263

def k0_dev35 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c1_i32_302 : BitVec 32 := 1#32
  let v267 : BitVec 1 := Scalar.cmpi .sge v5 c1_i32_302
  let v268 : BitVec 1 := Scalar.andi v14 v267
  let v269 : BitVec 32 := Scalar.extui v268
  let c0_i32_306 : BitVec 32 := 0#32
  let v270 : BitVec 1 := Scalar.cmpi .ne v269 c0_i32_306
  v270

def k0_dev36 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond45 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_307 : BitVec 32 := 1#32
  let v271 : BitVec 1 := Scalar.cmpi .sge v5 c1_i32_307
  let v272 : BitVec 32 := Scalar.extui v271
  let c0_i32_312 : BitVec 32 := 0#32
  let v273 : BitVec 1 := Scalar.cmpi .ne v272 c0_i32_312
  v273

def k0_dev37 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c1_i32_320 : BitVec 32 := 1#32
  let v279 : BitVec 32 := Scalar.addi v5 c1_i32_320
  let c3_i32_321 : BitVec 32 := 3#32
  let v280 : BitVec 1 := Scalar.cmpi .sle v279 c3_i32_321
  let v281 : BitVec 1 := Scalar.andi v15 v280
  let v282 : BitVec 32 := Scalar.extui v281
  let c0_i32_326 : BitVec 32 := 0#32
  let v283 : BitVec 1 := Scalar.cmpi .ne v282 c0_i32_326
  v283

def k0_dev38 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_327 : BitVec 32 := 1#32
  let v284 : BitVec 32 := Scalar.addi v5 c1_i32_327
  let c0_i32_328 : BitVec 32 := 0#32
  let v285 : BitVec 32 := Scalar.addi v284 c0_i32_328
  let c3_i32_329 : BitVec 32 := 3#32
  let v286 : BitVec 1 := Scalar.cmpi .sle v285 c3_i32_329
  let v287 : BitVec 32 := Scalar.extui v286
  let c0_i32_334 : BitVec 32 := 0#32
  let v288 : BitVec 1 := Scalar.cmpi .ne v287 c0_i32_334
  v288

def k0_dev39 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c1_i32_340 : BitVec 32 := 1#32
  let v292 : BitVec 1 := Scalar.cmpi .sge v5 c1_i32_340
  let v293 : BitVec 1 := Scalar.andi v14 v292
  let v294 : BitVec 32 := Scalar.extui v293
  let c0_i32_344 : BitVec 32 := 0#32
  let v295 : BitVec 1 := Scalar.cmpi .ne v294 c0_i32_344
  v295

def k0_dev40 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_345 : BitVec 32 := 1#32
  let v296 : BitVec 1 := Scalar.cmpi .sge v5 c1_i32_345
  let v297 : BitVec 32 := Scalar.extui v296
  let c0_i32_350 : BitVec 32 := 0#32
  let v298 : BitVec 1 := Scalar.cmpi .ne v297 c0_i32_350
  v298

def k0_dev41 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c1_i32_358 : BitVec 32 := 1#32
  let v304 : BitVec 32 := Scalar.addi v5 c1_i32_358
  let c3_i32_359 : BitVec 32 := 3#32
  let v305 : BitVec 1 := Scalar.cmpi .sle v304 c3_i32_359
  let v306 : BitVec 1 := Scalar.andi v15 v305
  let v307 : BitVec 32 := Scalar.extui v306
  let c0_i32_364 : BitVec 32 := 0#32
  let v308 : BitVec 1 := Scalar.cmpi .ne v307 c0_i32_364
  v308

def k0_dev42 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_365 : BitVec 32 := 1#32
  let v309 : BitVec 32 := Scalar.addi v5 c1_i32_365
  let c0_i32_366 : BitVec 32 := 0#32
  let v310 : BitVec 32 := Scalar.addi v309 c0_i32_366
  let c3_i32_367 : BitVec 32 := 3#32
  let v311 : BitVec 1 := Scalar.cmpi .sle v310 c3_i32_367
  let v312 : BitVec 32 := Scalar.extui v311
  let c0_i32_372 : BitVec 32 := 0#32
  let v313 : BitVec 1 := Scalar.cmpi .ne v312 c0_i32_372
  v313

def k0_dev43 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c1_i32_378 : BitVec 32 := 1#32
  let v317 : BitVec 1 := Scalar.cmpi .sge v5 c1_i32_378
  let v318 : BitVec 1 := Scalar.andi v14 v317
  let v319 : BitVec 32 := Scalar.extui v318
  let c0_i32_382 : BitVec 32 := 0#32
  let v320 : BitVec 1 := Scalar.cmpi .ne v319 c0_i32_382
  v320

def k0_dev44 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_383 : BitVec 32 := 1#32
  let v321 : BitVec 1 := Scalar.cmpi .sge v5 c1_i32_383
  let v322 : BitVec 32 := Scalar.extui v321
  let c0_i32_388 : BitVec 32 := 0#32
  let v323 : BitVec 1 := Scalar.cmpi .ne v322 c0_i32_388
  v323

def k0_dev45 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c1_i32_396 : BitVec 32 := 1#32
  let v329 : BitVec 32 := Scalar.addi v5 c1_i32_396
  let c3_i32_397 : BitVec 32 := 3#32
  let v330 : BitVec 1 := Scalar.cmpi .sle v329 c3_i32_397
  let v331 : BitVec 1 := Scalar.andi v15 v330
  let v332 : BitVec 32 := Scalar.extui v331
  let c0_i32_402 : BitVec 32 := 0#32
  let v333 : BitVec 1 := Scalar.cmpi .ne v332 c0_i32_402
  v333

def k0_dev46 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_403 : BitVec 32 := 1#32
  let v334 : BitVec 32 := Scalar.addi v5 c1_i32_403
  let c0_i32_404 : BitVec 32 := 0#32
  let v335 : BitVec 32 := Scalar.addi v334 c0_i32_404
  let c3_i32_405 : BitVec 32 := 3#32
  let v336 : BitVec 1 := Scalar.cmpi .sle v335 c3_i32_405
  let v337 : BitVec 32 := Scalar.extui v336
  let c0_i32_410 : BitVec 32 := 0#32
  let v338 : BitVec 1 := Scalar.cmpi .ne v337 c0_i32_410
  v338

def k0_dev47 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c1_i32_416 : BitVec 32 := 1#32
  let v342 : BitVec 1 := Scalar.cmpi .sge v5 c1_i32_416
  let v343 : BitVec 1 := Scalar.andi v14 v342
  let v344 : BitVec 32 := Scalar.extui v343
  let c0_i32_420 : BitVec 32 := 0#32
  let v345 : BitVec 1 := Scalar.cmpi .ne v344 c0_i32_420
  v345

def k0_dev48 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_421 : BitVec 32 := 1#32
  let v346 : BitVec 1 := Scalar.cmpi .sge v5 c1_i32_421
  let v347 : BitVec 32 := Scalar.extui v346
  let c0_i32_426 : BitVec 32 := 0#32
  let v348 : BitVec 1 := Scalar.cmpi .ne v347 c0_i32_426
  v348

def k0_dev49 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c1_i32_434 : BitVec 32 := 1#32
  let v354 : BitVec 32 := Scalar.addi v5 c1_i32_434
  let c3_i32_435 : BitVec 32 := 3#32
  let v355 : BitVec 1 := Scalar.cmpi .sle v354 c3_i32_435
  let v356 : BitVec 1 := Scalar.andi v15 v355
  let v357 : BitVec 32 := Scalar.extui v356
  let c0_i32_440 : BitVec 32 := 0#32
  let v358 : BitVec 1 := Scalar.cmpi .ne v357 c0_i32_440
  v358

def k0_dev50 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_441 : BitVec 32 := 1#32
  let v359 : BitVec 32 := Scalar.addi v5 c1_i32_441
  let c0_i32_442 : BitVec 32 := 0#32
  let v360 : BitVec 32 := Scalar.addi v359 c0_i32_442
  let c3_i32_443 : BitVec 32 := 3#32
  let v361 : BitVec 1 := Scalar.cmpi .sle v360 c3_i32_443
  let v362 : BitVec 32 := Scalar.extui v361
  let c0_i32_448 : BitVec 32 := 0#32
  let v363 : BitVec 1 := Scalar.cmpi .ne v362 c0_i32_448
  v363

def k0_dev51 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_449 : BitVec 32 := 1#32
  let v364 : BitVec 1 := Scalar.cmpi .sge v5 c1_i32_449
  let v365 : BitVec 32 := Scalar.extui v364
  let c0_i32_452 : BitVec 32 := 0#32
  let v366 : BitVec 1 := Scalar.cmpi .ne v365 c0_i32_452
  v366

def k0_off3 (d0 : Dev nD) : Fin 2 → Nat :=
  let c3_i32_112 : BitVec 32 := 3#32
  let c0_i32_111 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v116 : BitVec 32 := Scalar.subi v5 c1_i32_109
  let c0_i32_110 : BitVec 32 := 0#32
  let v117 : BitVec 32 := Scalar.subi v116 c0_i32_110
  let v118 : BitVec 32 := Scalar.maxsi c0_i32_111 v117
  let v119 : BitVec 32 := Scalar.minsi c3_i32_112 v118
  let c512_i32_133 : BitVec 32 := 512#32
  let v140 : BitVec 32 := Scalar.muli v119 c512_i32_133
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v141 : BitVec 32 := Scalar.addi v140 v19
  let c0_i32_1922 : BitVec 32 := 0#32
  ![v141.toNat, 0]
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_453 : BitVec 32 := 1#32
  let v367 : BitVec 32 := Scalar.addi v5 c1_i32_453
  let c0_i32_454 : BitVec 32 := 0#32
  let v368 : BitVec 32 := Scalar.addi v367 c0_i32_454
  let c3_i32_455 : BitVec 32 := 3#32
  let v369 : BitVec 1 := Scalar.cmpi .sle v368 c3_i32_455
  let v370 : BitVec 32 := Scalar.extui v369
  let c0_i32_458 : BitVec 32 := 0#32
  let v371 : BitVec 1 := Scalar.cmpi .ne v370 c0_i32_458
  v371

def k0_off4 (d0 : Dev nD) : Fin 2 → Nat :=
  let c3_i32_124 : BitVec 32 := 3#32
  let c0_i32_123 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v128 : BitVec 32 := Scalar.addi v5 c1_i32_121
  let c0_i32_122 : BitVec 32 := 0#32
  let v129 : BitVec 32 := Scalar.addi v128 c0_i32_122
  let v130 : BitVec 32 := Scalar.maxsi c0_i32_123 v129
  let v131 : BitVec 32 := Scalar.minsi c3_i32_124 v130
  let c512_i32_136 : BitVec 32 := 512#32
  let v146 : BitVec 32 := Scalar.muli v131 c512_i32_136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v147 : BitVec 32 := Scalar.addi v146 v19
  let c0_i32_1922 : BitVec 32 := 0#32
  ![v147.toNat, 0]
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c2_i32_465 : BitVec 32 := 2#32
  let v375 : BitVec 1 := Scalar.cmpi .sge v5 c2_i32_465
  let v376 : BitVec 1 := Scalar.andi v14 v375
  let v377 : BitVec 32 := Scalar.extui v376
  let c0_i32_470 : BitVec 32 := 0#32
  let v378 : BitVec 1 := Scalar.cmpi .ne v377 c0_i32_470
  v378

def k0_dev52 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_471 : BitVec 32 := 2#32
  let v379 : BitVec 1 := Scalar.cmpi .sge v5 c2_i32_471
  let v380 : BitVec 32 := Scalar.extui v379
  let c0_i32_476 : BitVec 32 := 0#32
  let v381 : BitVec 1 := Scalar.cmpi .ne v380 c0_i32_476
  v381

def k0_dev53 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c2_i32_485 : BitVec 32 := 2#32
  let v387 : BitVec 32 := Scalar.addi v5 c2_i32_485
  let c3_i32_486 : BitVec 32 := 3#32
  let v388 : BitVec 1 := Scalar.cmpi .sle v387 c3_i32_486
  let v389 : BitVec 1 := Scalar.andi v15 v388
  let v390 : BitVec 32 := Scalar.extui v389
  let c0_i32_491 : BitVec 32 := 0#32
  let v391 : BitVec 1 := Scalar.cmpi .ne v390 c0_i32_491
  v391

def k0_dev54 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_492 : BitVec 32 := 1#32
  let v392 : BitVec 32 := Scalar.addi v5 c1_i32_492
  let c1_i32_493 : BitVec 32 := 1#32
  let v393 : BitVec 32 := Scalar.addi v392 c1_i32_493
  let c3_i32_494 : BitVec 32 := 3#32
  let v394 : BitVec 1 := Scalar.cmpi .sle v393 c3_i32_494
  let v395 : BitVec 32 := Scalar.extui v394
  let c0_i32_499 : BitVec 32 := 0#32
  let v396 : BitVec 1 := Scalar.cmpi .ne v395 c0_i32_499
  v396

def k0_dev55 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c2_i32_506 : BitVec 32 := 2#32
  let v400 : BitVec 1 := Scalar.cmpi .sge v5 c2_i32_506
  let v401 : BitVec 1 := Scalar.andi v14 v400
  let v402 : BitVec 32 := Scalar.extui v401
  let c0_i32_510 : BitVec 32 := 0#32
  let v403 : BitVec 1 := Scalar.cmpi .ne v402 c0_i32_510
  v403

def k0_dev56 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_511 : BitVec 32 := 2#32
  let v404 : BitVec 1 := Scalar.cmpi .sge v5 c2_i32_511
  let v405 : BitVec 32 := Scalar.extui v404
  let c0_i32_516 : BitVec 32 := 0#32
  let v406 : BitVec 1 := Scalar.cmpi .ne v405 c0_i32_516
  v406

def k0_dev57 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c2_i32_525 : BitVec 32 := 2#32
  let v412 : BitVec 32 := Scalar.addi v5 c2_i32_525
  let c3_i32_526 : BitVec 32 := 3#32
  let v413 : BitVec 1 := Scalar.cmpi .sle v412 c3_i32_526
  let v414 : BitVec 1 := Scalar.andi v15 v413
  let v415 : BitVec 32 := Scalar.extui v414
  let c0_i32_531 : BitVec 32 := 0#32
  let v416 : BitVec 1 := Scalar.cmpi .ne v415 c0_i32_531
  v416

def k0_dev58 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_532 : BitVec 32 := 1#32
  let v417 : BitVec 32 := Scalar.addi v5 c1_i32_532
  let c1_i32_533 : BitVec 32 := 1#32
  let v418 : BitVec 32 := Scalar.addi v417 c1_i32_533
  let c3_i32_534 : BitVec 32 := 3#32
  let v419 : BitVec 1 := Scalar.cmpi .sle v418 c3_i32_534
  let v420 : BitVec 32 := Scalar.extui v419
  let c0_i32_539 : BitVec 32 := 0#32
  let v421 : BitVec 1 := Scalar.cmpi .ne v420 c0_i32_539
  v421

def k0_dev59 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond82 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c2_i32_546 : BitVec 32 := 2#32
  let v425 : BitVec 1 := Scalar.cmpi .sge v5 c2_i32_546
  let v426 : BitVec 1 := Scalar.andi v14 v425
  let v427 : BitVec 32 := Scalar.extui v426
  let c0_i32_550 : BitVec 32 := 0#32
  let v428 : BitVec 1 := Scalar.cmpi .ne v427 c0_i32_550
  v428

def k0_dev60 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_551 : BitVec 32 := 2#32
  let v429 : BitVec 1 := Scalar.cmpi .sge v5 c2_i32_551
  let v430 : BitVec 32 := Scalar.extui v429
  let c0_i32_556 : BitVec 32 := 0#32
  let v431 : BitVec 1 := Scalar.cmpi .ne v430 c0_i32_556
  v431

def k0_dev61 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c2_i32_565 : BitVec 32 := 2#32
  let v437 : BitVec 32 := Scalar.addi v5 c2_i32_565
  let c3_i32_566 : BitVec 32 := 3#32
  let v438 : BitVec 1 := Scalar.cmpi .sle v437 c3_i32_566
  let v439 : BitVec 1 := Scalar.andi v15 v438
  let v440 : BitVec 32 := Scalar.extui v439
  let c0_i32_571 : BitVec 32 := 0#32
  let v441 : BitVec 1 := Scalar.cmpi .ne v440 c0_i32_571
  v441

def k0_dev62 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_572 : BitVec 32 := 1#32
  let v442 : BitVec 32 := Scalar.addi v5 c1_i32_572
  let c1_i32_573 : BitVec 32 := 1#32
  let v443 : BitVec 32 := Scalar.addi v442 c1_i32_573
  let c3_i32_574 : BitVec 32 := 3#32
  let v444 : BitVec 1 := Scalar.cmpi .sle v443 c3_i32_574
  let v445 : BitVec 32 := Scalar.extui v444
  let c0_i32_579 : BitVec 32 := 0#32
  let v446 : BitVec 1 := Scalar.cmpi .ne v445 c0_i32_579
  v446

def k0_dev63 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c2_i32_586 : BitVec 32 := 2#32
  let v450 : BitVec 1 := Scalar.cmpi .sge v5 c2_i32_586
  let v451 : BitVec 1 := Scalar.andi v14 v450
  let v452 : BitVec 32 := Scalar.extui v451
  let c0_i32_590 : BitVec 32 := 0#32
  let v453 : BitVec 1 := Scalar.cmpi .ne v452 c0_i32_590
  v453

def k0_dev64 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_591 : BitVec 32 := 2#32
  let v454 : BitVec 1 := Scalar.cmpi .sge v5 c2_i32_591
  let v455 : BitVec 32 := Scalar.extui v454
  let c0_i32_596 : BitVec 32 := 0#32
  let v456 : BitVec 1 := Scalar.cmpi .ne v455 c0_i32_596
  v456

def k0_dev65 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c2_i32_605 : BitVec 32 := 2#32
  let v462 : BitVec 32 := Scalar.addi v5 c2_i32_605
  let c3_i32_606 : BitVec 32 := 3#32
  let v463 : BitVec 1 := Scalar.cmpi .sle v462 c3_i32_606
  let v464 : BitVec 1 := Scalar.andi v15 v463
  let v465 : BitVec 32 := Scalar.extui v464
  let c0_i32_611 : BitVec 32 := 0#32
  let v466 : BitVec 1 := Scalar.cmpi .ne v465 c0_i32_611
  v466

def k0_dev66 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_612 : BitVec 32 := 1#32
  let v467 : BitVec 32 := Scalar.addi v5 c1_i32_612
  let c1_i32_613 : BitVec 32 := 1#32
  let v468 : BitVec 32 := Scalar.addi v467 c1_i32_613
  let c3_i32_614 : BitVec 32 := 3#32
  let v469 : BitVec 1 := Scalar.cmpi .sle v468 c3_i32_614
  let v470 : BitVec 32 := Scalar.extui v469
  let c0_i32_619 : BitVec 32 := 0#32
  let v471 : BitVec 1 := Scalar.cmpi .ne v470 c0_i32_619
  v471

def k0_dev67 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c2_i32_626 : BitVec 32 := 2#32
  let v475 : BitVec 1 := Scalar.cmpi .sge v5 c2_i32_626
  let v476 : BitVec 1 := Scalar.andi v14 v475
  let v477 : BitVec 32 := Scalar.extui v476
  let c0_i32_630 : BitVec 32 := 0#32
  let v478 : BitVec 1 := Scalar.cmpi .ne v477 c0_i32_630
  v478

def k0_dev68 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_631 : BitVec 32 := 2#32
  let v479 : BitVec 1 := Scalar.cmpi .sge v5 c2_i32_631
  let v480 : BitVec 32 := Scalar.extui v479
  let c0_i32_636 : BitVec 32 := 0#32
  let v481 : BitVec 1 := Scalar.cmpi .ne v480 c0_i32_636
  v481

def k0_dev69 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c2_i32_645 : BitVec 32 := 2#32
  let v487 : BitVec 32 := Scalar.addi v5 c2_i32_645
  let c3_i32_646 : BitVec 32 := 3#32
  let v488 : BitVec 1 := Scalar.cmpi .sle v487 c3_i32_646
  let v489 : BitVec 1 := Scalar.andi v15 v488
  let v490 : BitVec 32 := Scalar.extui v489
  let c0_i32_651 : BitVec 32 := 0#32
  let v491 : BitVec 1 := Scalar.cmpi .ne v490 c0_i32_651
  v491

def k0_dev70 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_652 : BitVec 32 := 1#32
  let v492 : BitVec 32 := Scalar.addi v5 c1_i32_652
  let c1_i32_653 : BitVec 32 := 1#32
  let v493 : BitVec 32 := Scalar.addi v492 c1_i32_653
  let c3_i32_654 : BitVec 32 := 3#32
  let v494 : BitVec 1 := Scalar.cmpi .sle v493 c3_i32_654
  let v495 : BitVec 32 := Scalar.extui v494
  let c0_i32_659 : BitVec 32 := 0#32
  let v496 : BitVec 1 := Scalar.cmpi .ne v495 c0_i32_659
  v496

def k0_dev71 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c2_i32_666 : BitVec 32 := 2#32
  let v500 : BitVec 1 := Scalar.cmpi .sge v5 c2_i32_666
  let v501 : BitVec 1 := Scalar.andi v14 v500
  let v502 : BitVec 32 := Scalar.extui v501
  let c0_i32_670 : BitVec 32 := 0#32
  let v503 : BitVec 1 := Scalar.cmpi .ne v502 c0_i32_670
  v503

def k0_dev72 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond101 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_671 : BitVec 32 := 2#32
  let v504 : BitVec 1 := Scalar.cmpi .sge v5 c2_i32_671
  let v505 : BitVec 32 := Scalar.extui v504
  let c0_i32_676 : BitVec 32 := 0#32
  let v506 : BitVec 1 := Scalar.cmpi .ne v505 c0_i32_676
  v506

def k0_dev73 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond103 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c2_i32_685 : BitVec 32 := 2#32
  let v512 : BitVec 32 := Scalar.addi v5 c2_i32_685
  let c3_i32_686 : BitVec 32 := 3#32
  let v513 : BitVec 1 := Scalar.cmpi .sle v512 c3_i32_686
  let v514 : BitVec 1 := Scalar.andi v15 v513
  let v515 : BitVec 32 := Scalar.extui v514
  let c0_i32_691 : BitVec 32 := 0#32
  let v516 : BitVec 1 := Scalar.cmpi .ne v515 c0_i32_691
  v516

def k0_dev74 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond104 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_692 : BitVec 32 := 1#32
  let v517 : BitVec 32 := Scalar.addi v5 c1_i32_692
  let c1_i32_693 : BitVec 32 := 1#32
  let v518 : BitVec 32 := Scalar.addi v517 c1_i32_693
  let c3_i32_694 : BitVec 32 := 3#32
  let v519 : BitVec 1 := Scalar.cmpi .sle v518 c3_i32_694
  let v520 : BitVec 32 := Scalar.extui v519
  let c0_i32_699 : BitVec 32 := 0#32
  let v521 : BitVec 1 := Scalar.cmpi .ne v520 c0_i32_699
  v521

def k0_dev75 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c2_i32_706 : BitVec 32 := 2#32
  let v525 : BitVec 1 := Scalar.cmpi .sge v5 c2_i32_706
  let v526 : BitVec 1 := Scalar.andi v14 v525
  let v527 : BitVec 32 := Scalar.extui v526
  let c0_i32_710 : BitVec 32 := 0#32
  let v528 : BitVec 1 := Scalar.cmpi .ne v527 c0_i32_710
  v528

def k0_dev76 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond107 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_711 : BitVec 32 := 2#32
  let v529 : BitVec 1 := Scalar.cmpi .sge v5 c2_i32_711
  let v530 : BitVec 32 := Scalar.extui v529
  let c0_i32_716 : BitVec 32 := 0#32
  let v531 : BitVec 1 := Scalar.cmpi .ne v530 c0_i32_716
  v531

def k0_dev77 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c2_i32_725 : BitVec 32 := 2#32
  let v537 : BitVec 32 := Scalar.addi v5 c2_i32_725
  let c3_i32_726 : BitVec 32 := 3#32
  let v538 : BitVec 1 := Scalar.cmpi .sle v537 c3_i32_726
  let v539 : BitVec 1 := Scalar.andi v15 v538
  let v540 : BitVec 32 := Scalar.extui v539
  let c0_i32_731 : BitVec 32 := 0#32
  let v541 : BitVec 1 := Scalar.cmpi .ne v540 c0_i32_731
  v541

def k0_dev78 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond110 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_732 : BitVec 32 := 1#32
  let v542 : BitVec 32 := Scalar.addi v5 c1_i32_732
  let c1_i32_733 : BitVec 32 := 1#32
  let v543 : BitVec 32 := Scalar.addi v542 c1_i32_733
  let c3_i32_734 : BitVec 32 := 3#32
  let v544 : BitVec 1 := Scalar.cmpi .sle v543 c3_i32_734
  let v545 : BitVec 32 := Scalar.extui v544
  let c0_i32_739 : BitVec 32 := 0#32
  let v546 : BitVec 1 := Scalar.cmpi .ne v545 c0_i32_739
  v546

def k0_dev79 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond112 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v14 : BitVec 1 := Scalar.cmpi .slt v5 c3_i32_5
  let c2_i32_746 : BitVec 32 := 2#32
  let v550 : BitVec 1 := Scalar.cmpi .sge v5 c2_i32_746
  let v551 : BitVec 1 := Scalar.andi v14 v550
  let v552 : BitVec 32 := Scalar.extui v551
  let c0_i32_750 : BitVec 32 := 0#32
  let v553 : BitVec 1 := Scalar.cmpi .ne v552 c0_i32_750
  v553

def k0_dev80 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c3_i32 : BitVec 32 := 3#32
  let v10 : BitVec 32 := Scalar.minsi v9 c3_i32
  let c4_i32_1924 : BitVec 32 := 4#32
  let v1177 : BitVec 32 := Scalar.muli v10 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond113 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_751 : BitVec 32 := 2#32
  let v554 : BitVec 1 := Scalar.cmpi .sge v5 c2_i32_751
  let v555 : BitVec 32 := Scalar.extui v554
  let c0_i32_756 : BitVec 32 := 0#32
  let v556 : BitVec 1 := Scalar.cmpi .ne v555 c0_i32_756
  v556

def k0_dev81 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond115 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 1 := Scalar.cmpi .sgt v5 c0_i32_6
  let c2_i32_765 : BitVec 32 := 2#32
  let v562 : BitVec 32 := Scalar.addi v5 c2_i32_765
  let c3_i32_766 : BitVec 32 := 3#32
  let v563 : BitVec 1 := Scalar.cmpi .sle v562 c3_i32_766
  let v564 : BitVec 1 := Scalar.andi v15 v563
  let v565 : BitVec 32 := Scalar.extui v564
  let c0_i32_771 : BitVec 32 := 0#32
  let v566 : BitVec 1 := Scalar.cmpi .ne v565 c0_i32_771
  v566

def k0_dev82 (d0 : Dev nD) : Nat :=
  let c0_i32_1923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1922 : BitVec 32 := 16#32
  let v1175 : BitVec 32 := Scalar.muli v2 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.subi v5 c1_i32_3
  let c0_i32 : BitVec 32 := 0#32
  let v12 : BitVec 32 := Scalar.maxsi v11 c0_i32
  let c4_i32_1924 : BitVec 32 := 4#32
  let v1177 : BitVec 32 := Scalar.muli v12 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond116 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_772 : BitVec 32 := 1#32
  let v567 : BitVec 32 := Scalar.addi v5 c1_i32_772
  let c1_i32_773 : BitVec 32 := 1#32
  let v568 : BitVec 32 := Scalar.addi v567 c1_i32_773
  let c3_i32_774 : BitVec 32 := 3#32
  let v569 : BitVec 1 := Scalar.cmpi .sle v568 c3_i32_774
  let v570 : BitVec 32 := Scalar.extui v569
  let c0_i32_779 : BitVec 32 := 0#32
  let v571 : BitVec 1 := Scalar.cmpi .ne v570 c0_i32_779
  v571

def k0_dev83 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond117 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_780 : BitVec 32 := 2#32
  let v572 : BitVec 1 := Scalar.cmpi .sge v5 c2_i32_780
  let v573 : BitVec 32 := Scalar.extui v572
  let c0_i32_783 : BitVec 32 := 0#32
  let v574 : BitVec 1 := Scalar.cmpi .ne v573 c0_i32_783
  v574

def k0_off5 (d0 : Dev nD) : Fin 2 → Nat :=
  let c3_i32_116 : BitVec 32 := 3#32
  let c0_i32_115 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_113 : BitVec 32 := 1#32
  let v120 : BitVec 32 := Scalar.subi v5 c1_i32_113
  let c1_i32_114 : BitVec 32 := 1#32
  let v121 : BitVec 32 := Scalar.subi v120 c1_i32_114
  let v122 : BitVec 32 := Scalar.maxsi c0_i32_115 v121
  let v123 : BitVec 32 := Scalar.minsi c3_i32_116 v122
  let c512_i32_134 : BitVec 32 := 512#32
  let v142 : BitVec 32 := Scalar.muli v123 c512_i32_134
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v143 : BitVec 32 := Scalar.addi v142 v19
  let c0_i32_1922 : BitVec 32 := 0#32
  ![v143.toNat, 0]
def k0_cond118 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_784 : BitVec 32 := 1#32
  let v575 : BitVec 32 := Scalar.addi v5 c1_i32_784
  let c1_i32_785 : BitVec 32 := 1#32
  let v576 : BitVec 32 := Scalar.addi v575 c1_i32_785
  let c3_i32_786 : BitVec 32 := 3#32
  let v577 : BitVec 1 := Scalar.cmpi .sle v576 c3_i32_786
  let v578 : BitVec 32 := Scalar.extui v577
  let c0_i32_789 : BitVec 32 := 0#32
  let v579 : BitVec 1 := Scalar.cmpi .ne v578 c0_i32_789
  v579

def k0_off6 (d0 : Dev nD) : Fin 2 → Nat :=
  let c3_i32_128 : BitVec 32 := 3#32
  let c0_i32_127 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_125 : BitVec 32 := 1#32
  let v132 : BitVec 32 := Scalar.addi v5 c1_i32_125
  let c1_i32_126 : BitVec 32 := 1#32
  let v133 : BitVec 32 := Scalar.addi v132 c1_i32_126
  let v134 : BitVec 32 := Scalar.maxsi c0_i32_127 v133
  let v135 : BitVec 32 := Scalar.minsi c3_i32_128 v134
  let c512_i32_137 : BitVec 32 := 512#32
  let v148 : BitVec 32 := Scalar.muli v135 c512_i32_137
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v149 : BitVec 32 := Scalar.addi v148 v19
  let c0_i32_1922 : BitVec 32 := 0#32
  ![v149.toNat, 0]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_796 : BitVec 32 := 3#32
  let v583 : BitVec 1 := Scalar.cmpi .sge v5 c3_i32_796
  let v584 : BitVec 32 := Scalar.extui v583
  let c0_i32_801 : BitVec 32 := 0#32
  let v585 : BitVec 1 := Scalar.cmpi .ne v584 c0_i32_801
  v585

def k0_dev84 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond122 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_810 : BitVec 32 := 1#32
  let v591 : BitVec 32 := Scalar.addi v5 c1_i32_810
  let c2_i32_811 : BitVec 32 := 2#32
  let v592 : BitVec 32 := Scalar.addi v591 c2_i32_811
  let c3_i32_812 : BitVec 32 := 3#32
  let v593 : BitVec 1 := Scalar.cmpi .sle v592 c3_i32_812
  let v594 : BitVec 32 := Scalar.extui v593
  let c0_i32_817 : BitVec 32 := 0#32
  let v595 : BitVec 1 := Scalar.cmpi .ne v594 c0_i32_817
  v595

def k0_dev85 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond124 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_824 : BitVec 32 := 3#32
  let v599 : BitVec 1 := Scalar.cmpi .sge v5 c3_i32_824
  let v600 : BitVec 32 := Scalar.extui v599
  let c0_i32_829 : BitVec 32 := 0#32
  let v601 : BitVec 1 := Scalar.cmpi .ne v600 c0_i32_829
  v601

def k0_dev86 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond126 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_838 : BitVec 32 := 1#32
  let v607 : BitVec 32 := Scalar.addi v5 c1_i32_838
  let c2_i32_839 : BitVec 32 := 2#32
  let v608 : BitVec 32 := Scalar.addi v607 c2_i32_839
  let c3_i32_840 : BitVec 32 := 3#32
  let v609 : BitVec 1 := Scalar.cmpi .sle v608 c3_i32_840
  let v610 : BitVec 32 := Scalar.extui v609
  let c0_i32_845 : BitVec 32 := 0#32
  let v611 : BitVec 1 := Scalar.cmpi .ne v610 c0_i32_845
  v611

def k0_dev87 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond128 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_852 : BitVec 32 := 3#32
  let v615 : BitVec 1 := Scalar.cmpi .sge v5 c3_i32_852
  let v616 : BitVec 32 := Scalar.extui v615
  let c0_i32_857 : BitVec 32 := 0#32
  let v617 : BitVec 1 := Scalar.cmpi .ne v616 c0_i32_857
  v617

def k0_dev88 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond130 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_866 : BitVec 32 := 1#32
  let v623 : BitVec 32 := Scalar.addi v5 c1_i32_866
  let c2_i32_867 : BitVec 32 := 2#32
  let v624 : BitVec 32 := Scalar.addi v623 c2_i32_867
  let c3_i32_868 : BitVec 32 := 3#32
  let v625 : BitVec 1 := Scalar.cmpi .sle v624 c3_i32_868
  let v626 : BitVec 32 := Scalar.extui v625
  let c0_i32_873 : BitVec 32 := 0#32
  let v627 : BitVec 1 := Scalar.cmpi .ne v626 c0_i32_873
  v627

def k0_dev89 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond132 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_880 : BitVec 32 := 3#32
  let v631 : BitVec 1 := Scalar.cmpi .sge v5 c3_i32_880
  let v632 : BitVec 32 := Scalar.extui v631
  let c0_i32_885 : BitVec 32 := 0#32
  let v633 : BitVec 1 := Scalar.cmpi .ne v632 c0_i32_885
  v633

def k0_dev90 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond134 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_894 : BitVec 32 := 1#32
  let v639 : BitVec 32 := Scalar.addi v5 c1_i32_894
  let c2_i32_895 : BitVec 32 := 2#32
  let v640 : BitVec 32 := Scalar.addi v639 c2_i32_895
  let c3_i32_896 : BitVec 32 := 3#32
  let v641 : BitVec 1 := Scalar.cmpi .sle v640 c3_i32_896
  let v642 : BitVec 32 := Scalar.extui v641
  let c0_i32_901 : BitVec 32 := 0#32
  let v643 : BitVec 1 := Scalar.cmpi .ne v642 c0_i32_901
  v643

def k0_dev91 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond136 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_908 : BitVec 32 := 3#32
  let v647 : BitVec 1 := Scalar.cmpi .sge v5 c3_i32_908
  let v648 : BitVec 32 := Scalar.extui v647
  let c0_i32_913 : BitVec 32 := 0#32
  let v649 : BitVec 1 := Scalar.cmpi .ne v648 c0_i32_913
  v649

def k0_dev92 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond138 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_922 : BitVec 32 := 1#32
  let v655 : BitVec 32 := Scalar.addi v5 c1_i32_922
  let c2_i32_923 : BitVec 32 := 2#32
  let v656 : BitVec 32 := Scalar.addi v655 c2_i32_923
  let c3_i32_924 : BitVec 32 := 3#32
  let v657 : BitVec 1 := Scalar.cmpi .sle v656 c3_i32_924
  let v658 : BitVec 32 := Scalar.extui v657
  let c0_i32_929 : BitVec 32 := 0#32
  let v659 : BitVec 1 := Scalar.cmpi .ne v658 c0_i32_929
  v659

def k0_dev93 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond140 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_936 : BitVec 32 := 3#32
  let v663 : BitVec 1 := Scalar.cmpi .sge v5 c3_i32_936
  let v664 : BitVec 32 := Scalar.extui v663
  let c0_i32_941 : BitVec 32 := 0#32
  let v665 : BitVec 1 := Scalar.cmpi .ne v664 c0_i32_941
  v665

def k0_dev94 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond142 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_950 : BitVec 32 := 1#32
  let v671 : BitVec 32 := Scalar.addi v5 c1_i32_950
  let c2_i32_951 : BitVec 32 := 2#32
  let v672 : BitVec 32 := Scalar.addi v671 c2_i32_951
  let c3_i32_952 : BitVec 32 := 3#32
  let v673 : BitVec 1 := Scalar.cmpi .sle v672 c3_i32_952
  let v674 : BitVec 32 := Scalar.extui v673
  let c0_i32_957 : BitVec 32 := 0#32
  let v675 : BitVec 1 := Scalar.cmpi .ne v674 c0_i32_957
  v675

def k0_dev95 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond144 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_964 : BitVec 32 := 3#32
  let v679 : BitVec 1 := Scalar.cmpi .sge v5 c3_i32_964
  let v680 : BitVec 32 := Scalar.extui v679
  let c0_i32_969 : BitVec 32 := 0#32
  let v681 : BitVec 1 := Scalar.cmpi .ne v680 c0_i32_969
  v681

def k0_dev96 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond146 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_978 : BitVec 32 := 1#32
  let v687 : BitVec 32 := Scalar.addi v5 c1_i32_978
  let c2_i32_979 : BitVec 32 := 2#32
  let v688 : BitVec 32 := Scalar.addi v687 c2_i32_979
  let c3_i32_980 : BitVec 32 := 3#32
  let v689 : BitVec 1 := Scalar.cmpi .sle v688 c3_i32_980
  let v690 : BitVec 32 := Scalar.extui v689
  let c0_i32_985 : BitVec 32 := 0#32
  let v691 : BitVec 1 := Scalar.cmpi .ne v690 c0_i32_985
  v691

def k0_dev97 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond148 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_992 : BitVec 32 := 3#32
  let v695 : BitVec 1 := Scalar.cmpi .sge v5 c3_i32_992
  let v696 : BitVec 32 := Scalar.extui v695
  let c0_i32_997 : BitVec 32 := 0#32
  let v697 : BitVec 1 := Scalar.cmpi .ne v696 c0_i32_997
  v697

def k0_dev98 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond150 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1006 : BitVec 32 := 1#32
  let v703 : BitVec 32 := Scalar.addi v5 c1_i32_1006
  let c2_i32_1007 : BitVec 32 := 2#32
  let v704 : BitVec 32 := Scalar.addi v703 c2_i32_1007
  let c3_i32_1008 : BitVec 32 := 3#32
  let v705 : BitVec 1 := Scalar.cmpi .sle v704 c3_i32_1008
  let v706 : BitVec 32 := Scalar.extui v705
  let c0_i32_1013 : BitVec 32 := 0#32
  let v707 : BitVec 1 := Scalar.cmpi .ne v706 c0_i32_1013
  v707

def k0_dev99 (d0 : Dev nD) : Nat :=
  let c0_i32_1923 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_4 v2
  let c16_i32_1922 : BitVec 32 := 16#32
  let v1175 : BitVec 32 := Scalar.muli v13 c16_i32_1922
  let v1176 : BitVec 32 := Scalar.addi c0_i32_1923 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1924 : BitVec 32 := 4#32
  let v1177 : BitVec 32 := Scalar.muli v5 c4_i32_1924
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1925 : BitVec 32 := 1#32
  let v1179 : BitVec 32 := Scalar.muli v8 c1_i32_1925
  let v1180 : BitVec 32 := Scalar.addi v1178 v1179
  v1180.toNat
def k0_cond151 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1014 : BitVec 32 := 3#32
  let v708 : BitVec 1 := Scalar.cmpi .sge v5 c3_i32_1014
  let v709 : BitVec 32 := Scalar.extui v708
  let c0_i32_1017 : BitVec 32 := 0#32
  let v710 : BitVec 1 := Scalar.cmpi .ne v709 c0_i32_1017
  v710

def k0_off7 (d0 : Dev nD) : Fin 2 → Nat :=
  let c3_i32_120 : BitVec 32 := 3#32
  let c0_i32_119 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_117 : BitVec 32 := 1#32
  let v124 : BitVec 32 := Scalar.subi v5 c1_i32_117
  let c2_i32_118 : BitVec 32 := 2#32
  let v125 : BitVec 32 := Scalar.subi v124 c2_i32_118
  let v126 : BitVec 32 := Scalar.maxsi c0_i32_119 v125
  let v127 : BitVec 32 := Scalar.minsi c3_i32_120 v126
  let c512_i32_135 : BitVec 32 := 512#32
  let v144 : BitVec 32 := Scalar.muli v127 c512_i32_135
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v145 : BitVec 32 := Scalar.addi v144 v19
  let c0_i32_1922 : BitVec 32 := 0#32
  ![v145.toNat, 0]
def k0_cond152 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1018 : BitVec 32 := 1#32
  let v711 : BitVec 32 := Scalar.addi v5 c1_i32_1018
  let c2_i32_1019 : BitVec 32 := 2#32
  let v712 : BitVec 32 := Scalar.addi v711 c2_i32_1019
  let c3_i32_1020 : BitVec 32 := 3#32
  let v713 : BitVec 1 := Scalar.cmpi .sle v712 c3_i32_1020
  let v714 : BitVec 32 := Scalar.extui v713
  let c0_i32_1023 : BitVec 32 := 0#32
  let v715 : BitVec 1 := Scalar.cmpi .ne v714 c0_i32_1023
  v715

def k0_off8 (d0 : Dev nD) : Fin 2 → Nat :=
  let c3_i32_132 : BitVec 32 := 3#32
  let c0_i32_131 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_129 : BitVec 32 := 1#32
  let v136 : BitVec 32 := Scalar.addi v5 c1_i32_129
  let c2_i32_130 : BitVec 32 := 2#32
  let v137 : BitVec 32 := Scalar.addi v136 c2_i32_130
  let v138 : BitVec 32 := Scalar.maxsi c0_i32_131 v137
  let v139 : BitVec 32 := Scalar.minsi c3_i32_132 v138
  let c512_i32_138 : BitVec 32 := 512#32
  let v150 : BitVec 32 := Scalar.muli v139 c512_i32_138
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v151 : BitVec 32 := Scalar.addi v150 v19
  let c0_i32_1922 : BitVec 32 := 0#32
  ![v151.toNat, 0]
def k0_cond153 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1024 : BitVec 32 := 1#32
  let v716 : BitVec 1 := Scalar.cmpi .sge v5 c1_i32_1024
  let v717 : BitVec 32 := Scalar.extui v716
  let c0_i32_1059 : BitVec 32 := 0#32
  let v718 : BitVec 1 := Scalar.cmpi .ne v717 c0_i32_1059
  v718

def k0_off9 (d0 : Dev nD) : Fin 2 → Nat :=
  let c3_i32_112 : BitVec 32 := 3#32
  let c0_i32_111 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v116 : BitVec 32 := Scalar.subi v5 c1_i32_109
  let c0_i32_110 : BitVec 32 := 0#32
  let v117 : BitVec 32 := Scalar.subi v116 c0_i32_110
  let v118 : BitVec 32 := Scalar.maxsi c0_i32_111 v117
  let v119 : BitVec 32 := Scalar.minsi c3_i32_112 v118
  let c512_i32_139 : BitVec 32 := 512#32
  let v152 : BitVec 32 := Scalar.muli v119 c512_i32_139
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v153 : BitVec 32 := Scalar.addi v152 v21
  let c0_i32_1979 : BitVec 32 := 0#32
  ![v153.toNat, 0]
def k0_cond154 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1060 : BitVec 32 := 1#32
  let v719 : BitVec 32 := Scalar.addi v5 c1_i32_1060
  let c0_i32_1061 : BitVec 32 := 0#32
  let v720 : BitVec 32 := Scalar.addi v719 c0_i32_1061
  let c3_i32_1062 : BitVec 32 := 3#32
  let v721 : BitVec 1 := Scalar.cmpi .sle v720 c3_i32_1062
  let v722 : BitVec 32 := Scalar.extui v721
  let c0_i32_1097 : BitVec 32 := 0#32
  let v723 : BitVec 1 := Scalar.cmpi .ne v722 c0_i32_1097
  v723

def k0_off10 (d0 : Dev nD) : Fin 2 → Nat :=
  let c3_i32_124 : BitVec 32 := 3#32
  let c0_i32_123 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v128 : BitVec 32 := Scalar.addi v5 c1_i32_121
  let c0_i32_122 : BitVec 32 := 0#32
  let v129 : BitVec 32 := Scalar.addi v128 c0_i32_122
  let v130 : BitVec 32 := Scalar.maxsi c0_i32_123 v129
  let v131 : BitVec 32 := Scalar.minsi c3_i32_124 v130
  let c512_i32_142 : BitVec 32 := 512#32
  let v158 : BitVec 32 := Scalar.muli v131 c512_i32_142
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v159 : BitVec 32 := Scalar.addi v158 v21
  let c0_i32_1979 : BitVec 32 := 0#32
  ![v159.toNat, 0]
def k0_cond155 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1098 : BitVec 32 := 2#32
  let v724 : BitVec 1 := Scalar.cmpi .sge v5 c2_i32_1098
  let v725 : BitVec 32 := Scalar.extui v724
  let c0_i32_1133 : BitVec 32 := 0#32
  let v726 : BitVec 1 := Scalar.cmpi .ne v725 c0_i32_1133
  v726

def k0_off11 (d0 : Dev nD) : Fin 2 → Nat :=
  let c3_i32_116 : BitVec 32 := 3#32
  let c0_i32_115 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_113 : BitVec 32 := 1#32
  let v120 : BitVec 32 := Scalar.subi v5 c1_i32_113
  let c1_i32_114 : BitVec 32 := 1#32
  let v121 : BitVec 32 := Scalar.subi v120 c1_i32_114
  let v122 : BitVec 32 := Scalar.maxsi c0_i32_115 v121
  let v123 : BitVec 32 := Scalar.minsi c3_i32_116 v122
  let c512_i32_140 : BitVec 32 := 512#32
  let v154 : BitVec 32 := Scalar.muli v123 c512_i32_140
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v155 : BitVec 32 := Scalar.addi v154 v21
  let c0_i32_1979 : BitVec 32 := 0#32
  ![v155.toNat, 0]
def k0_cond156 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1134 : BitVec 32 := 1#32
  let v727 : BitVec 32 := Scalar.addi v5 c1_i32_1134
  let c1_i32_1135 : BitVec 32 := 1#32
  let v728 : BitVec 32 := Scalar.addi v727 c1_i32_1135
  let c3_i32_1136 : BitVec 32 := 3#32
  let v729 : BitVec 1 := Scalar.cmpi .sle v728 c3_i32_1136
  let v730 : BitVec 32 := Scalar.extui v729
  let c0_i32_1171 : BitVec 32 := 0#32
  let v731 : BitVec 1 := Scalar.cmpi .ne v730 c0_i32_1171
  v731

def k0_off12 (d0 : Dev nD) : Fin 2 → Nat :=
  let c3_i32_128 : BitVec 32 := 3#32
  let c0_i32_127 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_125 : BitVec 32 := 1#32
  let v132 : BitVec 32 := Scalar.addi v5 c1_i32_125
  let c1_i32_126 : BitVec 32 := 1#32
  let v133 : BitVec 32 := Scalar.addi v132 c1_i32_126
  let v134 : BitVec 32 := Scalar.maxsi c0_i32_127 v133
  let v135 : BitVec 32 := Scalar.minsi c3_i32_128 v134
  let c512_i32_143 : BitVec 32 := 512#32
  let v160 : BitVec 32 := Scalar.muli v135 c512_i32_143
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v161 : BitVec 32 := Scalar.addi v160 v21
  let c0_i32_1979 : BitVec 32 := 0#32
  ![v161.toNat, 0]
def k0_cond157 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1172 : BitVec 32 := 3#32
  let v732 : BitVec 1 := Scalar.cmpi .sge v5 c3_i32_1172
  let v733 : BitVec 32 := Scalar.extui v732
  let c0_i32_1207 : BitVec 32 := 0#32
  let v734 : BitVec 1 := Scalar.cmpi .ne v733 c0_i32_1207
  v734

def k0_off13 (d0 : Dev nD) : Fin 2 → Nat :=
  let c3_i32_120 : BitVec 32 := 3#32
  let c0_i32_119 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_117 : BitVec 32 := 1#32
  let v124 : BitVec 32 := Scalar.subi v5 c1_i32_117
  let c2_i32_118 : BitVec 32 := 2#32
  let v125 : BitVec 32 := Scalar.subi v124 c2_i32_118
  let v126 : BitVec 32 := Scalar.maxsi c0_i32_119 v125
  let v127 : BitVec 32 := Scalar.minsi c3_i32_120 v126
  let c512_i32_141 : BitVec 32 := 512#32
  let v156 : BitVec 32 := Scalar.muli v127 c512_i32_141
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v157 : BitVec 32 := Scalar.addi v156 v21
  let c0_i32_1979 : BitVec 32 := 0#32
  ![v157.toNat, 0]
def k0_cond158 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1208 : BitVec 32 := 1#32
  let v735 : BitVec 32 := Scalar.addi v5 c1_i32_1208
  let c2_i32_1209 : BitVec 32 := 2#32
  let v736 : BitVec 32 := Scalar.addi v735 c2_i32_1209
  let c3_i32_1210 : BitVec 32 := 3#32
  let v737 : BitVec 1 := Scalar.cmpi .sle v736 c3_i32_1210
  let v738 : BitVec 32 := Scalar.extui v737
  let c0_i32_1245 : BitVec 32 := 0#32
  let v739 : BitVec 1 := Scalar.cmpi .ne v738 c0_i32_1245
  v739

def k0_off14 (d0 : Dev nD) : Fin 2 → Nat :=
  let c3_i32_132 : BitVec 32 := 3#32
  let c0_i32_131 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_129 : BitVec 32 := 1#32
  let v136 : BitVec 32 := Scalar.addi v5 c1_i32_129
  let c2_i32_130 : BitVec 32 := 2#32
  let v137 : BitVec 32 := Scalar.addi v136 c2_i32_130
  let v138 : BitVec 32 := Scalar.maxsi c0_i32_131 v137
  let v139 : BitVec 32 := Scalar.minsi c3_i32_132 v138
  let c512_i32_144 : BitVec 32 := 512#32
  let v162 : BitVec 32 := Scalar.muli v139 c512_i32_144
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v163 : BitVec 32 := Scalar.addi v162 v21
  let c0_i32_1979 : BitVec 32 := 0#32
  ![v163.toNat, 0]
def k0_cond255 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1880 : BitVec 32 := 1#32
  let v1151 : BitVec 1 := Scalar.cmpi .sge v5 c1_i32_1880
  let v1152 : BitVec 32 := Scalar.extui v1151
  let c0_i32_1885 : BitVec 32 := 0#32
  let v1153 : BitVec 1 := Scalar.cmpi .ne v1152 c0_i32_1885
  v1153

def k0_off15 (d0 : Dev nD) : Fin 2 → Nat :=
  let c3_i32_112 : BitVec 32 := 3#32
  let c0_i32_111 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v116 : BitVec 32 := Scalar.subi v5 c1_i32_109
  let c0_i32_110 : BitVec 32 := 0#32
  let v117 : BitVec 32 := Scalar.subi v116 c0_i32_110
  let v118 : BitVec 32 := Scalar.maxsi c0_i32_111 v117
  let v119 : BitVec 32 := Scalar.minsi c3_i32_112 v118
  let c512_i32_133 : BitVec 32 := 512#32
  let v140 : BitVec 32 := Scalar.muli v119 c512_i32_133
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v141 : BitVec 32 := Scalar.addi v140 v19
  let c0_i32_1922 : BitVec 32 := 0#32
  ![v141.toNat, 0]
def k0_off16 (d0 : Dev nD) : Fin 2 → Nat :=
  let c3_i32_112 : BitVec 32 := 3#32
  let c0_i32_111 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v116 : BitVec 32 := Scalar.subi v5 c1_i32_109
  let c0_i32_110 : BitVec 32 := 0#32
  let v117 : BitVec 32 := Scalar.subi v116 c0_i32_110
  let v118 : BitVec 32 := Scalar.maxsi c0_i32_111 v117
  let v119 : BitVec 32 := Scalar.minsi c3_i32_112 v118
  let c512_i32_139 : BitVec 32 := 512#32
  let v152 : BitVec 32 := Scalar.muli v119 c512_i32_139
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v153 : BitVec 32 := Scalar.addi v152 v21
  let c0_i32_1925 : BitVec 32 := 0#32
  ![v153.toNat, 0]
def k0_cond256 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1886 : BitVec 32 := 1#32
  let v1154 : BitVec 32 := Scalar.addi v5 c1_i32_1886
  let c0_i32_1887 : BitVec 32 := 0#32
  let v1155 : BitVec 32 := Scalar.addi v1154 c0_i32_1887
  let c3_i32_1888 : BitVec 32 := 3#32
  let v1156 : BitVec 1 := Scalar.cmpi .sle v1155 c3_i32_1888
  let v1157 : BitVec 32 := Scalar.extui v1156
  let c0_i32_1893 : BitVec 32 := 0#32
  let v1158 : BitVec 1 := Scalar.cmpi .ne v1157 c0_i32_1893
  v1158

def k0_off17 (d0 : Dev nD) : Fin 2 → Nat :=
  let c3_i32_124 : BitVec 32 := 3#32
  let c0_i32_123 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v128 : BitVec 32 := Scalar.addi v5 c1_i32_121
  let c0_i32_122 : BitVec 32 := 0#32
  let v129 : BitVec 32 := Scalar.addi v128 c0_i32_122
  let v130 : BitVec 32 := Scalar.maxsi c0_i32_123 v129
  let v131 : BitVec 32 := Scalar.minsi c3_i32_124 v130
  let c512_i32_136 : BitVec 32 := 512#32
  let v146 : BitVec 32 := Scalar.muli v131 c512_i32_136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v147 : BitVec 32 := Scalar.addi v146 v19
  let c0_i32_1922 : BitVec 32 := 0#32
  ![v147.toNat, 0]
def k0_off18 (d0 : Dev nD) : Fin 2 → Nat :=
  let c3_i32_124 : BitVec 32 := 3#32
  let c0_i32_123 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v128 : BitVec 32 := Scalar.addi v5 c1_i32_121
  let c0_i32_122 : BitVec 32 := 0#32
  let v129 : BitVec 32 := Scalar.addi v128 c0_i32_122
  let v130 : BitVec 32 := Scalar.maxsi c0_i32_123 v129
  let v131 : BitVec 32 := Scalar.minsi c3_i32_124 v130
  let c512_i32_142 : BitVec 32 := 512#32
  let v158 : BitVec 32 := Scalar.muli v131 c512_i32_142
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v159 : BitVec 32 := Scalar.addi v158 v21
  let c0_i32_1925 : BitVec 32 := 0#32
  ![v159.toNat, 0]
def k0_cond257 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1894 : BitVec 32 := 2#32
  let v1159 : BitVec 1 := Scalar.cmpi .sge v5 c2_i32_1894
  let v1160 : BitVec 32 := Scalar.extui v1159
  let c0_i32_1899 : BitVec 32 := 0#32
  let v1161 : BitVec 1 := Scalar.cmpi .ne v1160 c0_i32_1899
  v1161

def k0_off19 (d0 : Dev nD) : Fin 2 → Nat :=
  let c3_i32_116 : BitVec 32 := 3#32
  let c0_i32_115 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_113 : BitVec 32 := 1#32
  let v120 : BitVec 32 := Scalar.subi v5 c1_i32_113
  let c1_i32_114 : BitVec 32 := 1#32
  let v121 : BitVec 32 := Scalar.subi v120 c1_i32_114
  let v122 : BitVec 32 := Scalar.maxsi c0_i32_115 v121
  let v123 : BitVec 32 := Scalar.minsi c3_i32_116 v122
  let c512_i32_134 : BitVec 32 := 512#32
  let v142 : BitVec 32 := Scalar.muli v123 c512_i32_134
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v143 : BitVec 32 := Scalar.addi v142 v19
  let c0_i32_1922 : BitVec 32 := 0#32
  ![v143.toNat, 0]
def k0_off20 (d0 : Dev nD) : Fin 2 → Nat :=
  let c3_i32_116 : BitVec 32 := 3#32
  let c0_i32_115 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_113 : BitVec 32 := 1#32
  let v120 : BitVec 32 := Scalar.subi v5 c1_i32_113
  let c1_i32_114 : BitVec 32 := 1#32
  let v121 : BitVec 32 := Scalar.subi v120 c1_i32_114
  let v122 : BitVec 32 := Scalar.maxsi c0_i32_115 v121
  let v123 : BitVec 32 := Scalar.minsi c3_i32_116 v122
  let c512_i32_140 : BitVec 32 := 512#32
  let v154 : BitVec 32 := Scalar.muli v123 c512_i32_140
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v155 : BitVec 32 := Scalar.addi v154 v21
  let c0_i32_1925 : BitVec 32 := 0#32
  ![v155.toNat, 0]
def k0_cond258 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1900 : BitVec 32 := 1#32
  let v1162 : BitVec 32 := Scalar.addi v5 c1_i32_1900
  let c1_i32_1901 : BitVec 32 := 1#32
  let v1163 : BitVec 32 := Scalar.addi v1162 c1_i32_1901
  let c3_i32_1902 : BitVec 32 := 3#32
  let v1164 : BitVec 1 := Scalar.cmpi .sle v1163 c3_i32_1902
  let v1165 : BitVec 32 := Scalar.extui v1164
  let c0_i32_1907 : BitVec 32 := 0#32
  let v1166 : BitVec 1 := Scalar.cmpi .ne v1165 c0_i32_1907
  v1166

def k0_off21 (d0 : Dev nD) : Fin 2 → Nat :=
  let c3_i32_128 : BitVec 32 := 3#32
  let c0_i32_127 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_125 : BitVec 32 := 1#32
  let v132 : BitVec 32 := Scalar.addi v5 c1_i32_125
  let c1_i32_126 : BitVec 32 := 1#32
  let v133 : BitVec 32 := Scalar.addi v132 c1_i32_126
  let v134 : BitVec 32 := Scalar.maxsi c0_i32_127 v133
  let v135 : BitVec 32 := Scalar.minsi c3_i32_128 v134
  let c512_i32_137 : BitVec 32 := 512#32
  let v148 : BitVec 32 := Scalar.muli v135 c512_i32_137
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v149 : BitVec 32 := Scalar.addi v148 v19
  let c0_i32_1922 : BitVec 32 := 0#32
  ![v149.toNat, 0]
def k0_off22 (d0 : Dev nD) : Fin 2 → Nat :=
  let c3_i32_128 : BitVec 32 := 3#32
  let c0_i32_127 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_125 : BitVec 32 := 1#32
  let v132 : BitVec 32 := Scalar.addi v5 c1_i32_125
  let c1_i32_126 : BitVec 32 := 1#32
  let v133 : BitVec 32 := Scalar.addi v132 c1_i32_126
  let v134 : BitVec 32 := Scalar.maxsi c0_i32_127 v133
  let v135 : BitVec 32 := Scalar.minsi c3_i32_128 v134
  let c512_i32_143 : BitVec 32 := 512#32
  let v160 : BitVec 32 := Scalar.muli v135 c512_i32_143
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v161 : BitVec 32 := Scalar.addi v160 v21
  let c0_i32_1925 : BitVec 32 := 0#32
  ![v161.toNat, 0]
def k0_cond259 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1908 : BitVec 32 := 3#32
  let v1167 : BitVec 1 := Scalar.cmpi .sge v5 c3_i32_1908
  let v1168 : BitVec 32 := Scalar.extui v1167
  let c0_i32_1913 : BitVec 32 := 0#32
  let v1169 : BitVec 1 := Scalar.cmpi .ne v1168 c0_i32_1913
  v1169

def k0_off23 (d0 : Dev nD) : Fin 2 → Nat :=
  let c3_i32_120 : BitVec 32 := 3#32
  let c0_i32_119 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_117 : BitVec 32 := 1#32
  let v124 : BitVec 32 := Scalar.subi v5 c1_i32_117
  let c2_i32_118 : BitVec 32 := 2#32
  let v125 : BitVec 32 := Scalar.subi v124 c2_i32_118
  let v126 : BitVec 32 := Scalar.maxsi c0_i32_119 v125
  let v127 : BitVec 32 := Scalar.minsi c3_i32_120 v126
  let c512_i32_135 : BitVec 32 := 512#32
  let v144 : BitVec 32 := Scalar.muli v127 c512_i32_135
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v145 : BitVec 32 := Scalar.addi v144 v19
  let c0_i32_1922 : BitVec 32 := 0#32
  ![v145.toNat, 0]
def k0_off24 (d0 : Dev nD) : Fin 2 → Nat :=
  let c3_i32_120 : BitVec 32 := 3#32
  let c0_i32_119 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_117 : BitVec 32 := 1#32
  let v124 : BitVec 32 := Scalar.subi v5 c1_i32_117
  let c2_i32_118 : BitVec 32 := 2#32
  let v125 : BitVec 32 := Scalar.subi v124 c2_i32_118
  let v126 : BitVec 32 := Scalar.maxsi c0_i32_119 v125
  let v127 : BitVec 32 := Scalar.minsi c3_i32_120 v126
  let c512_i32_141 : BitVec 32 := 512#32
  let v156 : BitVec 32 := Scalar.muli v127 c512_i32_141
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v157 : BitVec 32 := Scalar.addi v156 v21
  let c0_i32_1925 : BitVec 32 := 0#32
  ![v157.toNat, 0]
def k0_cond260 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1914 : BitVec 32 := 1#32
  let v1170 : BitVec 32 := Scalar.addi v5 c1_i32_1914
  let c2_i32_1915 : BitVec 32 := 2#32
  let v1171 : BitVec 32 := Scalar.addi v1170 c2_i32_1915
  let c3_i32_1916 : BitVec 32 := 3#32
  let v1172 : BitVec 1 := Scalar.cmpi .sle v1171 c3_i32_1916
  let v1173 : BitVec 32 := Scalar.extui v1172
  let c0_i32_1921 : BitVec 32 := 0#32
  let v1174 : BitVec 1 := Scalar.cmpi .ne v1173 c0_i32_1921
  v1174

def k0_off25 (d0 : Dev nD) : Fin 2 → Nat :=
  let c3_i32_132 : BitVec 32 := 3#32
  let c0_i32_131 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_129 : BitVec 32 := 1#32
  let v136 : BitVec 32 := Scalar.addi v5 c1_i32_129
  let c2_i32_130 : BitVec 32 := 2#32
  let v137 : BitVec 32 := Scalar.addi v136 c2_i32_130
  let v138 : BitVec 32 := Scalar.maxsi c0_i32_131 v137
  let v139 : BitVec 32 := Scalar.minsi c3_i32_132 v138
  let c512_i32_138 : BitVec 32 := 512#32
  let v150 : BitVec 32 := Scalar.muli v139 c512_i32_138
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v19 : BitVec 32 := Scalar.muli v2 c256_i32
  let v151 : BitVec 32 := Scalar.addi v150 v19
  let c0_i32_1922 : BitVec 32 := 0#32
  ![v151.toNat, 0]
def k0_off26 (d0 : Dev nD) : Fin 2 → Nat :=
  let c3_i32_132 : BitVec 32 := 3#32
  let c0_i32_131 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_129 : BitVec 32 := 1#32
  let v136 : BitVec 32 := Scalar.addi v5 c1_i32_129
  let c2_i32_130 : BitVec 32 := 2#32
  let v137 : BitVec 32 := Scalar.addi v136 c2_i32_130
  let v138 : BitVec 32 := Scalar.maxsi c0_i32_131 v137
  let v139 : BitVec 32 := Scalar.minsi c3_i32_132 v138
  let c512_i32_144 : BitVec 32 := 512#32
  let v162 : BitVec 32 := Scalar.muli v139 c512_i32_144
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c256_i32_10 : BitVec 32 := 256#32
  let v21 : BitVec 32 := Scalar.muli v20 c256_i32_10
  let v163 : BitVec 32 := Scalar.addi v162 v21
  let c0_i32_1925 : BitVec 32 := 0#32
  ![v163.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ops.lean ====
module

public import proofs.«01_k».proof.Proof.Gen.KernelIdeal
public import proofs.«01_k».proof.Proof.Gen.KernelIdeal.Skeleton

/-! The kernel's body as a LIST of operations. The body is straight-line code: each of its operations is one of a dozen
kinds, at a copy's direction, hop and piece. `Op` names them, `run` is each operation's program in front of what follows. -/

@[expose] public section

set_option maxRecDepth 65536

noncomputable section

namespace Cert.KernelIdeal.AG

open Idealize.ShloMosaic Idealize.ShloMosaic.TcCoe
open Idealize.SL.Sem
open Cert.KernelIdeal.Gen

variable {F : FTy → Type} [FloatOps F]

/-- The four families of remote copies: to the right along `y`, to the left along `y`, and the two relays along `x`. -/
inductive Kd | rs | ls | xr | xl
deriving DecidableEq

/-- The families are numbered 0 to 3. -/
def Kd.num : Kd → ℕ | .rs => 0 | .ls => 1 | .xr => 2 | .xl => 3

theorem Kd.num_lt (k : Kd) : k.num < 4 := by cases k <;> decide

/-- The buffer a family's copies land in. -/
abbrev bufR : Kd → Ref sig .tc
  | .rs => cc0_scratch1 | .ls => cc0_scratch2 | .xr => cc0_scratch3 | .xl => cc0_scratch4
def bufM : Kd → Memref sig .tc .vmem S3x256x512 .f32
  | .rs => Memref.whole cc0_scratch1 | .ls => Memref.whole cc0_scratch2
  | .xr => Memref.whole cc0_scratch3 | .xl => Memref.whole cc0_scratch4

/-- The whole input block, the whole result, and the half block of one's own. -/
abbrev inM : Memref sig .tc .vmem S512x512 .f32 := Memref.whole cc0_stg0_0
abbrev outM : Memref sig .tc .vmem S2048x512 .f32 := Memref.whole cc0_stg1_0
abbrev ownM : Memref sig .tc .vmem S256x512 .f32 := Memref.whole cc0_scratch0

theorem piece_inb (s : Fin 3) (q : Fin 8) : ∀ a, (![s.val, 32 * q.val, 0] : Fin 3 → ℕ) a + S1x32x512.size a ≤ S3x256x512.size a := by
  revert s q; decide
theorem slot_inb (s : Fin 3) : ∀ a, (![s.val, 0, 0] : Fin 3 → ℕ) a + S1x256x512.size a ≤ S3x256x512.size a := by
  revert s; decide
theorem own_inb (q : Fin 8) : ∀ a, (![32 * q.val, 0] : Fin 2 → ℕ) a + S32x512.size a ≤ S256x512.size a := by
  revert q; decide
theorem sem_inb (s : Fin 3) (q : Fin 8) : ∀ a, (![8 * s.val + q.val] : Fin 1 → ℕ) a + S1.size a ≤ S24.size a := by
  revert s q; decide
theorem st_inb (j : Fin 13) : ∀ a, (![j.val] : Fin 1 → ℕ) a + S1.size a ≤ S13.size a := by
  revert j; decide

/-- Piece `q` of slot `s` of a family's buffer. -/
def pieceM (k : Kd) (s : Fin 3) (q : Fin 8) : Memref sig .tc .vmem S32x512 .f32 :=
  ((bufM k).slice (Rect.unit (s := S3x256x512) ![s.val, 32 * q.val, 0] S1x32x512.size (piece_inb s q)) (fun _ => rfl)).squeeze
    S32x512 squeezes_S1x32x512_S32x512

/-- Slot `s` of a family's buffer. -/
def slotM (k : Kd) (s : Fin 3) : Memref sig .tc .vmem S256x512 .f32 :=
  ((bufM k).slice (Rect.unit (s := S3x256x512) ![s.val, 0, 0] S1x256x512.size (slot_inb s)) (fun _ => rfl)).squeeze
    S256x512 squeezes_S1x256x512_S256x512

/-- Piece `q` of one's own half block. -/
def ownPieceM (q : Fin 8) : Memref sig .tc .vmem S32x512 .f32 :=
  ownM.slice (Rect.unit (s := S256x512) ![32 * q.val, 0] S32x512.size (own_inb q)) (fun _ => rfl)

/-- The piece a copy reads: one's own half block at the first hop, the slot before at a later one, the slot of the
    `y` copy for a relay. -/
def srcM : Kd → Fin 3 → Fin 8 → Memref sig .tc .vmem S32x512 .f32
  | .rs, 0, q => ownPieceM q
  | .rs, 1, q => pieceM .rs 0 q
  | .rs, 2, q => pieceM .rs 1 q
  | .ls, 0, q => ownPieceM q
  | .ls, 1, q => pieceM .ls 0 q
  | .ls, 2, q => pieceM .ls 1 q
  | .xr, s, q => pieceM .rs s q
  | .xl, s, q => pieceM .ls s q

/-- A family's two arrays of semaphores. -/
def semA (k : Kd) : DmaSems sig S24 := match k with
  | .rs => cc0_scratch5 | .ls => cc0_scratch7 | .xr => cc0_scratch9 | .xl => cc0_scratch11
def semB (k : Kd) : DmaSems sig S24 := match k with
  | .rs => cc0_scratch6 | .ls => cc0_scratch8 | .xr => cc0_scratch10 | .xl => cc0_scratch12

/-- A copy's send semaphore, its receive semaphore, and a local store's. -/
def sS (k : Kd) (s : Fin 3) (q : Fin 8) : DmaSem sig :=
  (((semA k).slice (Rect.unit (s := S24) ![8 * s.val + q.val] S1.size (sem_inb s q))).squeeze S_ squeezes_S1_S_).sem
def sR (k : Kd) (s : Fin 3) (q : Fin 8) : DmaSem sig :=
  (((semB k).slice (Rect.unit (s := S24) ![8 * s.val + q.val] S1.size (sem_inb s q))).squeeze S_ squeezes_S1_S_).sem
def sT (j : Fin 13) : DmaSem sig :=
  ((cc0_scratch13.slice (Rect.unit (s := S13) ![j.val] S1.size (st_inb j))).squeeze S_ squeezes_S1_S_).sem

theorem sS_eq (k : Kd) (s : Fin 3) (q : Fin 8) : (sS k s q).val = 2 + 48 * k.num + 8 * s.val + q.val := by
  cases k <;> revert s q <;> decide +kernel
theorem sR_eq (k : Kd) (s : Fin 3) (q : Fin 8) : (sR k s q).val = 26 + 48 * k.num + 8 * s.val + q.val := by
  cases k <;> revert s q <;> decide +kernel
theorem sT_eq (j : Fin 13) : (sT j).val = 194 + j.val := by
  revert j; decide +kernel

/-- A device's `y` coordinate, as the kernel computes it. -/
def yw (d : Dev nD) : BitVec 32 := Scalar.remsi (Scalar.divsi (Dev.word d) 4#32) 4#32

/-- Whether the device makes the copy `s` of a family, as the kernel computes it. -/
def cS (k : Kd) (s : Fin 3) (d : Dev nD) : BitVec 1 := match k with
  | .rs => Scalar.cmpi .ne (Scalar.extui (Scalar.andi (Scalar.cmpi .slt (yw d) 3#32) (Scalar.cmpi .sge (yw d) (BitVec.ofNat 32 s.val)))) 0#32
  | .ls => Scalar.cmpi .ne (Scalar.extui (Scalar.andi (Scalar.cmpi .sgt (yw d) 0#32) (Scalar.cmpi .sle (Scalar.addi (yw d) (BitVec.ofNat 32 s.val)) 3#32))) 0#32
  | .xr => Scalar.cmpi .ne (Scalar.extui (Scalar.cmpi .sge (yw d) (BitVec.ofNat 32 (s.val + 1)))) 0#32
  | .xl => Scalar.cmpi .ne (Scalar.extui (Scalar.cmpi .sle (Scalar.addi (Scalar.addi (yw d) 1#32) (BitVec.ofNat 32 s.val)) 3#32)) 0#32

/-- Whether the device receives the copy `s` of a family, as the kernel computes it. -/
def cR (k : Kd) (s : Fin 3) (d : Dev nD) : BitVec 1 := match k with
  | .rs => cS .xr s d
  | .ls => cS .xl s d
  | .xr => cS .xr s d
  | .xl => cS .xl s d

/-- The device a family's copies go to, as the kernel computes it. -/
def devW (k : Kd) (d : Dev nD) : Dev nD := match k with
  | .rs => ⟨k0_dev4 d, by revert d; decide +kernel⟩
  | .ls => ⟨k0_dev5 d, by revert d; decide +kernel⟩
  | .xr => ⟨k0_dev25 d, by revert d; decide +kernel⟩
  | .xl => ⟨k0_dev25 d, by revert d; decide +kernel⟩

/-- Where a received half block goes in the result, as the kernel computes it. -/
def offW (k : Kd) (s : Fin 3) (d : Dev nD) : Fin 2 → ℕ := match k, s with
  | .rs, 0 => k0_off3 d | .rs, 1 => k0_off5 d | .rs, 2 => k0_off7 d
  | .ls, 0 => k0_off4 d | .ls, 1 => k0_off6 d | .ls, 2 => k0_off8 d
  | .xr, 0 => k0_off9 d | .xr, 1 => k0_off11 d | .xr, 2 => k0_off13 d
  | .xl, 0 => k0_off10 d | .xl, 1 => k0_off12 d | .xl, 2 => k0_off14 d

theorem offW_inb (k : Kd) (s : Fin 3) (d : Dev nD) : ∀ a, offW k s d a + S256x512.size a ≤ S2048x512.size a := by
  cases k <;> revert s d <;> decide +kernel

/-- The block of the result that a received half block goes to, and the one one's own block goes to. -/
def outHalf (k : Kd) (s : Fin 3) (d : Dev nD) : Memref sig .tc .vmem S256x512 .f32 :=
  outM.slice (Rect.unit (s := S2048x512) (offW k s d) S256x512.size (offW_inb k s d)) (fun _ => rfl)
def outOwn (d : Dev nD) : Memref sig .tc .vmem S512x512 .f32 :=
  outM.slice (Rect.unit (s := S2048x512) (k0_off2 d) S512x512.size (k0_off2_inb d)) (fun _ => rfl)

/-- The number of a local store's semaphore: 0 is one's own block's. -/
def stN (k : Kd) (s : Fin 3) : Fin 13 := ⟨1 + 3 * k.num + s.val, by have := k.num_lt; omega⟩

/-- The barrier's semaphore. -/
abbrev barSem := (SemArray.scalar (sig.barrier 0 rfl) : Sems sig S_).sem

/-- The kernel's operations. -/
inductive Op
  | sigR | sigL | sigP
  | copyOwn | ownStart | bar
  | send (k : Kd) (s : Fin 3) (q : Fin 8)
  | recvY (l : Bool) (s : Fin 3) (q : Fin 8)
  | storeY (l : Bool) (s : Fin 3)
  | recvX (l : Bool) (s : Fin 3)
  | waitS (k : Kd) (s : Fin 3) (q : Fin 8)
  | ownFin
  | fin (l : Bool) (s : Fin 3)

/-- The `y` family of a direction, and the relay of it. -/
def kY : Bool → Kd | false => .rs | true => .ls
def kX : Bool → Kd | false => .xr | true => .xl

abbrev PF (F : FTy → Type) [FloatOps F] := Prog (TpuEff nD τ sig (Elt F) Λ₀ .tc)

/-- A wait on a copy's receive semaphore. -/
def waitRE (k : Kd) (s : Fin 3) (q : Fin 8) : TpuEff nD τ sig (Elt F) Λ₀ .tc PUnit :=
  .waitDma2 (sR k s q) (srcM k s q) (pieceM k s q) (View.wordExact_bits rfl) ((View.wordExact_bits rfl).reshape _ _)

/-- A wait on a copy's send semaphore. -/
def waitSE (k : Kd) (s : Fin 3) (q : Fin 8) : TpuEff nD τ sig (Elt F) Λ₀ .tc PUnit :=
  .waitDma2 (sS k s q) (pieceM k s q) (srcM k s q) ((View.wordExact_bits rfl).reshape _ _) (View.wordExact_bits rfl)

/-- A copy to another device. -/
def sendE (k : Kd) (s : Fin 3) (q : Fin 8) (d : Dev nD) : TpuEff nD τ sig (Elt F) Λ₀ .tc PUnit :=
  .enqueueDma (srcM k s q) (.remote (Dev.tc (devW k d)) (pieceM k s q) (.dma (sS k s q))) (.dma (sR k s q))
    (View.wordExact_bits rfl) ((View.wordExact_bits rfl).reshape _ _) ⟨⟨rfl, Or.inl rfl⟩, trivial⟩

/-- A local store of a received slot, and the wait for it. -/
def storeE (k : Kd) (s : Fin 3) (d : Dev nD) : TpuEff nD τ sig (Elt F) Λ₀ .tc PUnit :=
  .enqueueDma (slotM k s) (.here (outHalf k s d)) (.dma (sT (stN k s))) ((View.wordExact_bits rfl).reshape _ _) (View.wordExact_bits rfl) ⟨Or.inl rfl, trivial⟩
def finE (k : Kd) (s : Fin 3) (d : Dev nD) : TpuEff nD τ sig (Elt F) Λ₀ .tc PUnit :=
  .waitDma2 (sT (stN k s)) (slotM k s) (outHalf k s d) ((View.wordExact_bits rfl).reshape _ _) (View.wordExact_bits rfl)

/-- Each operation's program, in front of what follows it. -/
def run {α : Type} (o : Op) (d : Dev nD) (K : PF F α) : PF F α := match o with
  | .sigR => if h : k0_cond1 d = 1#1 then (do semSignalWord (⟨k0_dev1 d, k0_dev1_lt d h⟩ : Dev nD) barSem 1#32; K) else K
  | .sigL => if h : k0_cond2 d = 1#1 then (do semSignalWord (⟨k0_dev2 d, k0_dev2_lt d h⟩ : Dev nD) barSem 1#32; K) else K
  | .sigP => (do semSignalWord (⟨k0_dev3 d, k0_dev3_lt d⟩ : Dev nD) barSem (k0_amt1 d); K)
  | .copyOwn => do
    let v ← Prog.lift (.load inM (Rect.unit (s := S512x512) (k0_off1 d) S256x512.size (k0_off1_inb d)).toLoadRect (View.loadsAt_vmem h_S256x512))
    let _ ← Prog.lift (.load ownM (Rect.unit (s := S256x512) ![0, 0] S256x512.size inb_S256x512_S256x512_0_0).toLoadRect (View.loadsAt_vmem h_S256x512))
    Prog.lift (.store ownM (Rect.unit (s := S256x512) ![0, 0] S256x512.size inb_S256x512_S256x512_0_0) (k0_pay1 v) Finset.univ (View.stores_vmem_bits_univ h_S256x512 rfl) (.inl rfl))
    K
  | .ownStart => do
    Prog.lift (.enqueueDma inM (.here (outOwn d)) (.dma (sT 0)) (Memref.isWhole_whole _).wordExact (View.wordExact_bits rfl) ⟨Or.inl rfl, trivial⟩)
    K
  | .bar => do semWaitWord barSem 3#32; K
  | .send k s q => if _h : cS k s d = 1#1 then (do Prog.lift (sendE k s q d); K) else K
  | .recvY l s q => if _h : cR (kY l) s d = 1#1 then (do Prog.lift (waitRE (kY l) s q); K) else K
  | .storeY l s => if _h : cR (kY l) s d = 1#1 then (do Prog.lift (storeE (kY l) s d); K) else K
  | .recvX l s => if _h : cR (kX l) s d = 1#1 then (do
      Prog.lift (waitRE (kX l) s 0)
      Prog.lift (waitRE (kX l) s 1)
      Prog.lift (waitRE (kX l) s 2)
      Prog.lift (waitRE (kX l) s 3)
      Prog.lift (waitRE (kX l) s 4)
      Prog.lift (waitRE (kX l) s 5)
      Prog.lift (waitRE (kX l) s 6)
      Prog.lift (waitRE (kX l) s 7)
      Prog.lift (storeE (kX l) s d)
      K) else K
  | .waitS k s q => if _h : cS k s d = 1#1 then (do Prog.lift (waitSE k s q); K) else K
  | .ownFin => do
    Prog.lift (.waitDma2 (sT 0) inM (outOwn d) (Memref.isWhole_whole _).wordExact (View.wordExact_bits rfl))
    K
  | .fin l s => if _h : cR (kY l) s d = 1#1 then (do Prog.lift (finE (kY l) s d); Prog.lift (finE (kX l) s d); K) else K

/-- A list of operations, in front of what follows it. -/
def runs {α : Type} : List Op → Dev nD → PF F α → PF F α
  | [], _, K => K
  | o :: os, d, K => run o d (runs os d K)

/-- What an operation does not do is look at what follows it. -/
theorem run_bind {α β : Type} (o : Op) (d : Dev nD) (K : PF F α) (G : α → PF F β) : run o d K >>= G = run o d (K >>= G) := by
  cases o <;> simp only [run] <;> first | rfl | (split <;> rfl)

/-- `p` on device `d` makes the operations of `os` up to `rest` and returns `v`. -/
def Steps {α : Type} (d : Dev nD) (p : PF F α) (os rest : List Op) (v : α) : Prop :=
  ∀ {β : Type} (K : α → PF F β) (z : PF F β), K v = runs rest d z → p >>= K = runs os d z

theorem Steps.pure {α : Type} {d : Dev nD} {os : List Op} {v : α} : Steps (F := F) d (Pure.pure v) os os v := fun _ _ h => h

theorem Steps.op {α : Type} {d : Dev nD} {p k : PF F α} {o : Op} {os rest : List Op} {v : α} (hp : p = run o d k)
    (h : Steps d k os rest v) : Steps d p (o :: os) rest v := fun K z hz => by
  rw [hp, run_bind, h K z hz]; rfl

theorem Steps.bind {α β : Type} {d : Dev nD} {p : PF F α} {f : α → PF F β} {os mid rest : List Op} {v : α} {w : β}
    (hp : Steps d p os mid v) (hf : Steps d (f v) mid rest w) : Steps d (p >>= f) os rest w := fun K z hz => by
  rw [Prog.bind_assoc]; exact hp _ z (hf K z hz)

/-- The operations of the first hop's sends, and of one hop of the receiving loop. -/
def hop0 (q : Fin 8) : List Op := [.send .rs 0 q, .send .ls 0 q]
def hopA (s s' : Fin 3) (q : Fin 8) : List Op :=
  [.recvY false s q, .send .rs s' q, .send .xr s q, .recvY true s q, .send .ls s' q, .send .xl s q]
def hopZ (q : Fin 8) : List Op := [.recvY false 2 q, .send .xr 2 q, .recvY true 2 q, .send .xl 2 q]
def hopW (s : Fin 3) (q : Fin 8) : List Op := [.waitS .rs s q, .waitS .ls s q, .waitS .xr s q, .waitS .xl s q]
def eachQ (f : Fin 8 → List Op) : List Op := f 0 ++ f 1 ++ f 2 ++ f 3 ++ f 4 ++ f 5 ++ f 6 ++ f 7

/-- All operations in the order of the program. -/
def allOps : List Op :=
  [.sigR, .sigL, .sigP, .copyOwn, .ownStart, .bar] ++ eachQ hop0
    ++ eachQ (hopA 0 1) ++ [.storeY false 0, .storeY true 0]
    ++ eachQ (hopA 1 2) ++ [.storeY false 1, .storeY true 1]
    ++ eachQ hopZ ++ [.storeY false 2, .storeY true 2]
    ++ [.recvX false 0, .recvX true 0, .recvX false 1, .recvX true 1, .recvX false 2, .recvX true 2]
    ++ eachQ (hopW 0) ++ eachQ (hopW 1) ++ eachQ (hopW 2)
    ++ [.ownFin, .fin false 0, .fin true 0, .fin false 1, .fin true 1, .fin false 2, .fin true 2]

end Cert.KernelIdeal.AG
-- ==== Proof.Grid.lean ====
module

public import proofs.«01_k».proof.Proof.Ops

/-! The mesh: where each family of copies goes and comes from, and on which devices each copy is made. -/

@[expose] public section

namespace Cert.KernelIdeal.AG

open Idealize.ShloMosaic Idealize.ShloMosaic.TcCoe
open Idealize.SL.Sem
open Cert.KernelIdeal.Gen

/-- A device's coordinate along `y`. -/
abbrev yN (c : Dev nD) : ℕ := c.val / 4 % 4

/-- The device `n` further along `y`, around the ring of four. -/
def up (n : ℕ) (c : Dev nD) : Dev nD := ⟨c.val / 16 * 16 + (c.val / 4 + n) % 4 * 4 + c.val % 4, by
  have := c.isLt; show _ < 32; have h : c.val < 32 := this; omega⟩
/-- The other device along `x`. -/
def peer (c : Dev nD) : Dev nD := ⟨(c.val + 16) % 32, Nat.mod_lt _ (by decide)⟩

/-- Where a family's copies go, and where those a device receives come from. -/
def tgt : Kd → Dev nD → Dev nD
  | .rs, c => up 1 c | .ls, c => up 3 c | .xr, c => peer c | .xl, c => peer c
def frm : Kd → Dev nD → Dev nD
  | .rs, c => up 3 c | .ls, c => up 1 c | .xr, c => peer c | .xl, c => peer c

theorem tgt_frm (k : Kd) (c : Dev nD) : tgt k (frm k c) = c := by cases k <;> revert c <;> decide +kernel
theorem frm_tgt (k : Kd) (c : Dev nD) : frm k (tgt k c) = c := by cases k <;> revert c <;> decide +kernel
theorem peer_peer (c : Dev nD) : peer (peer c) = c := by revert c; decide +kernel

/-- Going where a family goes, as a permutation of the devices. -/
def ring (k : Kd) : Dev nD ≃ Dev nD := ⟨tgt k, frm k, frm_tgt k, tgt_frm k⟩

/-- Whether device `c` receives copy `s` of a family. -/
def vR : Kd → Fin 3 → Dev nD → Bool
  | .rs, s, c => decide (s.val + 1 ≤ yN c) | .ls, s, c => decide (yN c + 1 + s.val ≤ 3)
  | .xr, s, c => decide (s.val + 1 ≤ yN c) | .xl, s, c => decide (yN c + 1 + s.val ≤ 3)
/-- Whether device `c` makes copy `s` of a family. -/
def vS : Kd → Fin 3 → Dev nD → Bool
  | .rs, s, c => decide (yN c < 3) && decide (s.val ≤ yN c) | .ls, s, c => decide (0 < yN c) && decide (yN c + s.val ≤ 3)
  | .xr, s, c => decide (s.val + 1 ≤ yN c) | .xl, s, c => decide (yN c + 1 + s.val ≤ 3)

/-- The device a received half block started from. -/
def org : Kd → Fin 3 → Dev nD → Dev nD
  | .rs, s, c => up (3 - s.val) c | .ls, s, c => up (1 + s.val) c
  | .xr, s, c => up (3 - s.val) (peer c) | .xl, s, c => up (1 + s.val) (peer c)

theorem vR_tgt (k : Kd) (s : Fin 3) (c : Dev nD) : vR k s (tgt k c) = vS k s c := by
  cases k <;> revert s c <;> decide +kernel
theorem vS_frm (k : Kd) (s : Fin 3) (c : Dev nD) : vS k s (frm k c) = vR k s c := by
  cases k <;> revert s c <;> decide +kernel
theorem cS_iff (k : Kd) (s : Fin 3) (c : Dev nD) : cS k s c = 1#1 ↔ vS k s c = true := by
  cases k <;> revert s c <;> decide +kernel
theorem cR_iff (k : Kd) (s : Fin 3) (c : Dev nD) : cR k s c = 1#1 ↔ vR k s c = true := by
  cases k <;> revert s c <;> decide +kernel
theorem devW_eq (k : Kd) (s : Fin 3) (c : Dev nD) (h : vS k s c = true) : devW k c = tgt k c := by
  cases k <;> revert s c <;> decide +kernel
theorem cond1_iff (c : Dev nD) : k0_cond1 c = 1#1 ↔ yN c < 3 := by revert c; decide +kernel
theorem cond2_iff (c : Dev nD) : k0_cond2 c = 1#1 ↔ 0 < yN c := by revert c; decide +kernel
theorem dev1_eq (c : Dev nD) (h : k0_cond1 c = 1#1) : (⟨k0_dev1 c, k0_dev1_lt c h⟩ : Dev nD) = tgt .rs c := by
  refine Fin.ext ?_; revert h; revert c; decide +kernel
theorem dev2_eq (c : Dev nD) (h : k0_cond2 c = 1#1) : (⟨k0_dev2 c, k0_dev2_lt c h⟩ : Dev nD) = tgt .ls c := by
  refine Fin.ext ?_; revert h; revert c; decide +kernel
theorem dev3_eq (c : Dev nD) : (⟨k0_dev3 c, k0_dev3_lt c⟩ : Dev nD) = peer c := by
  refine Fin.ext ?_; revert c; decide +kernel

/-- What the peer's signal is worth: two at an end of the chain, where one neighbour is missing. -/
def amtP (c : Dev nD) : ℕ := if yN c = 0 ∨ yN c = 3 then 2 else 1
theorem amt1_eq (c : Dev nD) : (k0_amt1 c).toNat = amtP c := by revert c; decide +kernel

/-- A later copy's origin, and a relayed one's. -/
theorem org_rs0 (c : Dev nD) : org .rs 0 (tgt .rs c) = c := by revert c; decide +kernel
theorem org_ls0 (c : Dev nD) : org .ls 0 (tgt .ls c) = c := by revert c; decide +kernel
theorem org_rs1 (c : Dev nD) : org .rs 1 (tgt .rs c) = org .rs 0 c := by revert c; decide +kernel
theorem org_ls1 (c : Dev nD) : org .ls 1 (tgt .ls c) = org .ls 0 c := by revert c; decide +kernel
theorem org_rs2 (c : Dev nD) : org .rs 2 (tgt .rs c) = org .rs 1 c := by revert c; decide +kernel
theorem org_ls2 (c : Dev nD) : org .ls 2 (tgt .ls c) = org .ls 1 c := by revert c; decide +kernel
theorem org_xr (s : Fin 3) (c : Dev nD) : org .xr s (tgt .xr c) = org .rs s c := by revert s c; decide +kernel
theorem org_xl (s : Fin 3) (c : Dev nD) : org .xl s (tgt .xl c) = org .ls s c := by revert s c; decide +kernel

/-- Where a received half block goes in the result: to the rows of the device it started from. -/
theorem offW_eq (k : Kd) (s : Fin 3) (c : Dev nD) (h : vR k s c = true) :
    offW k s c 0 = 512 * yN (org k s c) + 256 * ((org k s c).val / 16) ∧ offW k s c 1 = 0 := by
  cases k <;> revert s c <;> decide +kernel

end Cert.KernelIdeal.AG
-- ==== Proof.Tok.lean ====
module

public import proofs.«01_k».proof.Proof.Ops

/-! The bookkeeping of the body's run, on numbers: what each operation takes and what it gives. `exec` follows the whole
list of operations, so that one evaluation shows that every operation finds what it needs, and what is left in the end. -/

@[expose] public section

set_option maxRecDepth 65536

namespace Cert.KernelIdeal.AG

/-- The things a device holds on its way through the body. -/
inductive Tok
  /-- the right to make a barrier signal; what is handed over with it -/
  | tB (d : Fin 3) | gv (d : Fin 3)
  /-- the place at the barrier, before (`false`) and after (`true`) it; the right to wait there -/
  | aB (r : Bool) | cB
  /-- the right to make a copy; the places at its two semaphores; the rights to wait at them -/
  | tC (k : Kd) (s : Fin 3) (q : Fin 8) | aS (r : Bool) (k : Kd) (s : Fin 3) (q : Fin 8) | aR (r : Bool) (k : Kd) (s : Fin 3) (q : Fin 8)
  | cR (k : Kd) (s : Fin 3) (q : Fin 8) | cS (k : Kd) (s : Fin 3) (q : Fin 8)
  /-- where a copy lands; what it reads -/
  | dl (k : Kd) (s : Fin 3) (q : Fin 8) | src (k : Kd) (s : Fin 3) (q : Fin 8)
  /-- what is left of the last received pieces; the part of a received piece that the local store reads -/
  | lo (l : Bool) (q : Fin 8) | stp (k : Kd) (s : Fin 3) (q : Fin 8)
  /-- of a local store: the right to make it, the place at its semaphore, the right to wait, where it goes, what it leaves -/
  | tT (o : Option (Kd × Fin 3)) | aT (r : Bool) (o : Option (Kd × Fin 3)) | cT (o : Option (Kd × Fin 3))
  | out (o : Option (Kd × Fin 3)) | dn (o : Option (Kd × Fin 3))
  /-- the scratch buffer for one's own half block; the input block -/
  | ownB | inp

def c3 (k : Kd) (s : Fin 3) (q : Fin 8) : ℕ := 24 * k.num + 8 * s.val + q.val
def cO : Option (Kd × Fin 3) → ℕ | none => 0 | some (k, s) => 1 + 3 * k.num + s.val
def kdOf : ℕ → Kd | 0 => .rs | 1 => .ls | 2 => .xr | _ => .xl

/-- A number for each. -/
def code : Tok → ℕ
  | .tB d => d.val | .gv d => 128 + d.val
  | .aB false => 256 | .aB true => 384 | .cB => 512
  | .tC k s q => 640 + c3 k s q
  | .aS false k s q => 768 + c3 k s q | .aS true k s q => 896 + c3 k s q
  | .aR false k s q => 1024 + c3 k s q | .aR true k s q => 1152 + c3 k s q
  | .cR k s q => 1280 + c3 k s q | .cS k s q => 1408 + c3 k s q
  | .dl k s q => 1536 + c3 k s q | .src k s q => 1664 + c3 k s q
  | .lo false q => 1792 + q.val | .lo true q => 1920 + q.val
  | .stp k s q => 2048 + c3 k s q
  | .tT o => 2176 + cO o | .aT false o => 2304 + cO o | .aT true o => 2432 + cO o | .cT o => 2560 + cO o
  | .out o => 2688 + cO o | .dn o => 2816 + cO o
  | .ownB => 2944 | .inp => 3072

def kOf (n : ℕ) : Kd := kdOf (n % 128 / 24)
def sOf (n : ℕ) : Fin 3 := Fin.ofNat 3 (n % 128 / 8 % 3)
def qOf (n : ℕ) : Fin 8 := Fin.ofNat 8 (n % 128)
def oOf (n : ℕ) : Option (Kd × Fin 3) := if n % 128 = 0 then none else some (kdOf ((n % 128 - 1) / 3), Fin.ofNat 3 (n % 128 - 1))

/-- And back. -/
def decode (n : ℕ) : Tok := match n / 128 with
  | 0 => .tB (Fin.ofNat 3 n) | 1 => .gv (Fin.ofNat 3 (n % 128))
  | 2 => .aB false | 3 => .aB true | 4 => .cB
  | 5 => .tC (kOf n) (sOf n) (qOf n)
  | 6 => .aS false (kOf n) (sOf n) (qOf n) | 7 => .aS true (kOf n) (sOf n) (qOf n)
  | 8 => .aR false (kOf n) (sOf n) (qOf n) | 9 => .aR true (kOf n) (sOf n) (qOf n)
  | 10 => .cR (kOf n) (sOf n) (qOf n) | 11 => .cS (kOf n) (sOf n) (qOf n)
  | 12 => .dl (kOf n) (sOf n) (qOf n) | 13 => .src (kOf n) (sOf n) (qOf n)
  | 14 => .lo false (qOf n) | 15 => .lo true (qOf n)
  | 16 => .stp (kOf n) (sOf n) (qOf n)
  | 17 => .tT (oOf n) | 18 => .aT false (oOf n) | 19 => .aT true (oOf n) | 20 => .cT (oOf n)
  | 21 => .out (oOf n) | 22 => .dn (oOf n)
  | 23 => .ownB | _ => .inp

deriving instance DecidableEq for Tok

theorem decode_code (t : Tok) : decode (code t) = t := by
  rcases t with d | d | r | _ | ⟨k, s, q⟩ | ⟨r, k, s, q⟩ | ⟨r, k, s, q⟩ | ⟨k, s, q⟩ | ⟨k, s, q⟩ | ⟨k, s, q⟩ | ⟨k, s, q⟩ | ⟨l, q⟩ | ⟨k, s, q⟩
    | (_ | ⟨k, s⟩) | ⟨r, (_ | ⟨k, s⟩)⟩ | (_ | ⟨k, s⟩) | (_ | ⟨k, s⟩) | (_ | ⟨k, s⟩) | _ | _
  all_goals first
    | rfl
    | (revert d; decide +kernel)
    | (cases r <;> rfl)
    | (cases r <;> cases k <;> revert s q <;> decide +kernel)
    | (cases k <;> revert s q <;> decide +kernel)
    | (cases l <;> revert q <;> decide +kernel)
    | (cases r <;> cases k <;> revert s <;> decide +kernel)
    | (cases k <;> revert s <;> decide +kernel)

/-- What a device owes: a barrier signal, or a copy's arrival. -/
inductive Owe | b (d : Fin 3) | r (k : Kd) (s : Fin 3) (q : Fin 8)
deriving DecidableEq

/-- Its height: waiting somewhere is allowed when everything still owed is higher. -/
def oweLv : Owe → ℕ
  | .b _ => 1 | .r .rs s _ => 2 + s.val | .r .ls s _ => 2 + s.val | .r _ _ _ => 10

def qs : List (Fin 8) := [0, 1, 2, 3, 4, 5, 6, 7]
def ss : List (Fin 3) := [0, 1, 2]
def kds : List Kd := [.rs, .ls, .xr, .xl]
def sqL : List (Fin 3 × Fin 8) := ss.flatMap fun s => qs.map fun q => (s, q)
def ksqL : List (Kd × Fin 3 × Fin 8) := kds.flatMap fun k => sqL.map fun p => (k, p)
def oL : List (Option (Kd × Fin 3)) := none :: (kds.flatMap fun k => ss.map fun s => some (k, s))

/-- What becomes of the share of a received piece that is for the next hop. -/
def nxtTok (l : Bool) (s : Fin 3) (q : Fin 8) : Tok := match s with
  | 0 => .src (kY l) 1 q | 1 => .src (kY l) 2 q | 2 => .lo l q

/-- What an operation takes, -/
def pre : Op → List Tok
  | .sigR => [.tB 0, .gv 0] | .sigL => [.tB 1, .gv 1] | .sigP => [.tB 2, .gv 2]
  | .copyOwn => [.inp, .ownB]
  | .ownStart => [.inp, .out none, .tT none]
  | .bar => [.aB false, .cB]
  | .send k s q => [.src k s q, .dl k s q, .tC k s q]
  | .recvY l s q => [.aR false (kY l) s q, .cR (kY l) s q]
  | .storeY l s => [.tT (some (kY l, s)), .out (some (kY l, s))] ++ qs.map fun q => .stp (kY l) s q
  | .recvX l s => ([.tT (some (kX l, s)), .out (some (kX l, s))] ++ qs.map fun q => .aR false (kX l) s q) ++ qs.map fun q => .cR (kX l) s q
  | .waitS k s q => [.aS false k s q, .cS k s q]
  | .ownFin => [.aT false none, .cT none]
  | .fin l s => [.aT false (some (kY l, s)), .cT (some (kY l, s)), .aT false (some (kX l, s)), .cT (some (kX l, s))]
/-- gives, -/
def post : Op → List Tok
  | .sigR => [] | .sigL => [] | .sigP => []
  | .copyOwn => [.inp] ++ (qs.map fun q => .src .rs 0 q) ++ qs.map fun q => .src .ls 0 q
  | .ownStart => [.cT none]
  | .bar => [.aB true] ++ ksqL.map fun p => .dl p.1 p.2.1 p.2.2
  | .send k s q => [.cS k s q]
  | .recvY l s q => [.aR true (kY l) s q, nxtTok l s q, .src (kX l) s q, .stp (kY l) s q]
  | .storeY l s => [.cT (some (kY l, s))]
  | .recvX l s => [.cT (some (kX l, s))] ++ qs.map fun q => .aR true (kX l) s q
  | .waitS k s q => [.aS true k s q, .src k s q]
  | .ownFin => [.aT true none, .dn none]
  | .fin l s => [.aT true (some (kY l, s)), .dn (some (kY l, s)), .aT true (some (kX l, s)), .dn (some (kX l, s))]
/-- pays, -/
def pops : Op → List Owe
  | .sigR => [.b 0] | .sigL => [.b 1] | .sigP => [.b 2]
  | .send k s q => [.r k s q]
  | _ => []
/-- and how high it waits. -/
def lvl : Op → ℕ
  | .bar => 1 | .recvY _ s _ => 2 + s.val | .recvX _ _ => 10 | _ => 0

/-- Whether everything still owed is higher than `n`. -/
def above (n : ℕ) (ow : List Owe) : Bool := ow.all fun o => Nat.blt n (oweLv o)

/-- `l` without one `n`. -/
def take (n : ℕ) : List ℕ → Option (List ℕ)
  | [] => none
  | a :: l => bif Nat.beq a n then some l else (match take n l with | none => none | some l' => some (a :: l'))
def takeAll : List ℕ → List ℕ → Option (List ℕ)
  | [], l => some l
  | n :: ns, l => match take n l with | none => none | some l' => takeAll ns l'
/-- The owed list without its beginning `ps`. -/
def strip : List Owe → List Owe → Option (List Owe)
  | [], ow => some ow
  | _ :: _, [] => none
  | p :: ps, o :: ow => if p = o then strip ps ow else none

def codes (l : List Tok) : List ℕ := l.map code

/-- One operation, and a list of them. -/
def exec1 (o : Op) (st : List ℕ) (ow : List Owe) : Option (List ℕ × List Owe) :=
  match takeAll (codes (pre o)) st with
  | none => none
  | some st' => match strip (pops o) ow with
    | none => none
    | some ow' => bif above (lvl o) ow' then some (codes (post o) ++ st', ow') else none
def exec : List Op → List ℕ → List Owe → Option (List ℕ × List Owe)
  | [], st, ow => some (st, ow)
  | o :: os, st, ow => match exec1 o st ow with
    | none => none
    | some (st', ow') => exec os st' ow'

/-- What a device starts with, -/
def startToks : List Tok :=
  [.inp, .ownB, .aB false, .cB] ++ ([0, 1, 2].map fun d => .tB d) ++ ([0, 1, 2].map fun d => .gv d)
    ++ (oL.map fun o => .out o) ++ (oL.map fun o => .tT o) ++ (oL.map fun o => .aT false o)
    ++ (ksqL.map fun p => .tC p.1 p.2.1 p.2.2) ++ (ksqL.map fun p => .cR p.1 p.2.1 p.2.2)
    ++ (ksqL.map fun p => .aR false p.1 p.2.1 p.2.2) ++ (ksqL.map fun p => .aS false p.1 p.2.1 p.2.2)
/-- what it ends with, -/
def endToks : List Tok :=
  [.aB true] ++ (oL.map fun o => .dn o) ++ (oL.map fun o => .aT true o)
    ++ (ksqL.map fun p => .aR true p.1 p.2.1 p.2.2) ++ (ksqL.map fun p => .aS true p.1 p.2.1 p.2.2)
    ++ (ksqL.map fun p => .src p.1 p.2.1 p.2.2) ++ (qs.map fun q => .lo false q) ++ (qs.map fun q => .lo true q)
/-- and what it owes, in the order it pays. -/
def owed : List Owe := [.b 0, .b 1, .b 2] ++ qs.flatMap (fun q => [.r .rs 0 q, .r .ls 0 q])
    ++ qs.flatMap (fun q => [.r .rs 1 q, .r .xr 0 q, .r .ls 1 q, .r .xl 0 q])
    ++ qs.flatMap (fun q => [.r .rs 2 q, .r .xr 1 q, .r .ls 2 q, .r .xl 1 q])
    ++ qs.flatMap (fun q => [.r .xr 2 q, .r .xl 2 q])

/-- The run goes through, pays everything and ends with what is said. -/
def checks : Bool := match exec allOps (codes startToks) owed with
  | some (st, []) => (match takeAll (codes endToks) st with | some _ => true | none => false)
  | _ => false

theorem checks_eq : checks = true := by decide +kernel

theorem exec_all : ∃ st rest, exec allOps (codes startToks) owed = some (st, []) ∧ takeAll (codes endToks) st = some rest := by
  have h := checks_eq
  unfold checks at h
  split at h
  · next st heq =>
    split at h
    · next rest hr => exact ⟨st, rest, heq, hr⟩
    · exact absurd h Bool.false_ne_true
  · exact absurd h Bool.false_ne_true

end Cert.KernelIdeal.AG
-- ==== Proof.Sched.lean ====
module

public import proofs.«01_k».proof.Proof.Grid
public import proofs.«01_k».proof.Proof.Tok
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.ValueIdxCore
public import Idealize.ShloMosaic.Lib.Tactic

/-! The protocol between the devices: what each semaphore is for, what each buffer holds, and the schedule of duties. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

/-- The protocol's duties are named by three numbers; only the barrier has more than one. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- What a semaphore is for: the barrier, a copy's sending or receiving side, a local store (`none`: of one's own block). -/
inductive CK | no | bar | snd (k : Kd) (s : Fin 3) (q : Fin 8) | rcv (k : Kd) (s : Fin 3) (q : Fin 8) | st (o : Option (Kd × Fin 3))
deriving DecidableEq

def kdN : ℕ → Kd | 0 => .rs | 1 => .ls | 2 => .xr | _ => .xl
/-- What DMA semaphore `n` is for. -/
def ckN (n : ℕ) : CK :=
  if n < 2 then .no
  else if n < 194 then
    (if (n - 2) % 48 < 24 then .snd (kdN ((n - 2) / 48)) (Fin.ofNat 3 ((n - 2) % 48 / 8)) (Fin.ofNat 8 ((n - 2) % 8))
      else .rcv (kdN ((n - 2) / 48)) (Fin.ofNat 3 (((n - 2) % 48 - 24) / 8)) (Fin.ofNat 8 ((n - 2) % 8)))
  else if n = 194 then .st none
  else .st (some (kdN ((n - 195) / 3), Fin.ofNat 3 ((n - 195) % 3)))
def ck : SemLoc sig → CK
  | .reg b => if b = barSem then .bar else .no
  | .dma n => ckN n.val

/-- The semaphore of a local store. -/
def sTo : Option (Kd × Fin 3) → DmaSem sig
  | none => sT 0 | some (k, s) => sT (stN k s)

theorem ck_bar : ck (.reg barSem) = .bar := by unfold ck; exact if_pos rfl
theorem ck_snd (k : Kd) (s : Fin 3) (q : Fin 8) : ck (.dma (sS k s q)) = .snd k s q := by
  cases k <;> revert s q <;> decide +kernel
theorem ck_rcv (k : Kd) (s : Fin 3) (q : Fin 8) : ck (.dma (sR k s q)) = .rcv k s q := by
  cases k <;> revert s q <;> decide +kernel
theorem ck_st (o : Option (Kd × Fin 3)) : ck (.dma (sTo o)) = .st o := by
  rcases o with _ | ⟨k, s⟩
  · decide +kernel
  · cases k <;> revert s <;> decide +kernel

abbrev bCell (c : Dev nD) : GSem nD τ sig := ((c : Thread nD τ), .reg barSem)
abbrev sCell (k : Kd) (s : Fin 3) (q : Fin 8) (c : Dev nD) : GSem nD τ sig := ((c : Thread nD τ), .dma (sS k s q))
abbrev rCell (k : Kd) (s : Fin 3) (q : Fin 8) (c : Dev nD) : GSem nD τ sig := ((c : Thread nD τ), .dma (sR k s q))
abbrev tCell (o : Option (Kd × Fin 3)) (c : Dev nD) : GSem nD τ sig := ((c : Thread nD τ), .dma (sTo o))

/-! ## Contents -/

variable (X : Dev nD → (cc0_stg0_0 : Ref sig .tc).ty.Contents (Elt F))

/-- The half block a device sends: its rows at its place along `x`. -/
def OWN (c : Dev nD) : S256x512.Idx → Elt F .f32 := fun i =>
  X c (ix2 (n0 := 512) (n1 := 512) (Fin.ofNat 512 (256 * (c.val / 16) + (i 0).val)) (i 1))

/-- What a family's buffer holds in the end: slot `s` the half block of the device that copy `s` started from. -/
def VV (k : Kd) (c : Dev nD) : S3x256x512.Idx → Elt F .f32 := fun i => OWN X (org k (i 0) c) (ix2 (n0 := 256) (n1 := 512) (i 1) (i 2))
def V (k : Kd) (c : Dev nD) : Buf (Elt F) ((bufM k).view.loc (c : Thread nD τ)) := match k with
  | .rs => VV X .rs c | .ls => VV X .ls c | .xr => VV X .xr c | .xl => VV X .xl c

/-- The device at one's own `z` and the given `x` and `y`. -/
def at3 (x y : ℕ) (c : Dev nD) : Dev nD := Fin.ofNat 32 (16 * x + 4 * y + c.val % 4)
/-- The result: one's own block in its place, every other one by the two half blocks of the two devices holding it. -/
def OV (c : Dev nD) : S2048x512.Idx → Elt F .f32 := fun i =>
  if (i 0).val / 512 = yN c then X c (ix2 (n0 := 512) (n1 := 512) (Fin.ofNat 512 ((i 0).val % 512)) (i 1))
  else OWN X (at3 ((i 0).val % 512 / 256) ((i 0).val / 512) c) (ix2 (n0 := 256) (n1 := 512) (Fin.ofNat 256 ((i 0).val % 256)) (i 1))

/-! ## Pieces of the buffers -/

/-- Piece `q` of slot `s`, holding what it holds in the end. -/
def pcPts (k : Kd) (s : Fin 3) (q : Fin 8) (c : Dev nD) (sh : PosShare TreeShare) : sProp 𝕄 :=
  (pieceM k s q).view.loc (c : Thread nD τ) ↦[(pieceM k s q).view.set]{sh} V X k c
/-- The same holding anything. -/
def pcAny (k : Kd) (s : Fin 3) (q : Fin 8) (c : Dev nD) : sProp 𝕄 :=
  iprop(∃ f : Buf (Elt F) ((pieceM k s q).view.loc (c : Thread nD τ)), (pieceM k s q).view.loc (c : Thread nD τ) ↦[(pieceM k s q).view.set]{fullShare} f)
/-- Piece `q` of one's own half block. -/
def ownPts (q : Fin 8) (c : Dev nD) (sh : PosShare TreeShare) : sProp 𝕄 :=
  (ownPieceM q).view.loc (c : Thread nD τ) ↦[(ownPieceM q).view.set]{sh} OWN X c
/-- A slot. -/
def slotPts (k : Kd) (s : Fin 3) (c : Dev nD) (sh : PosShare TreeShare) : sProp 𝕄 :=
  (slotM k s).view.loc (c : Thread nD τ) ↦[(slotM k s).view.set]{sh} V X k c
/-- The input block. -/
def inPts (c : Dev nD) : sProp 𝕄 :=
  (inM).view.loc (c : Thread nD τ) ↦[(inM).view.set]{fullShare} X c
/-- The rows of the result a local store goes to, holding anything or the result. -/
def outAny (o : Option (Kd × Fin 3)) (c : Dev nD) : sProp 𝕄 := match o with
  | none => iprop(∃ f : Buf (Elt F) ((outOwn c).view.loc (c : Thread nD τ)), (outOwn c).view.loc (c : Thread nD τ) ↦[(outOwn c).view.set]{fullShare} f)
  | some (k, s) => iprop(∃ f : Buf (Elt F) ((outHalf k s c).view.loc (c : Thread nD τ)), (outHalf k s c).view.loc (c : Thread nD τ) ↦[(outHalf k s c).view.set]{fullShare} f)
def outPts (o : Option (Kd × Fin 3)) (c : Dev nD) : sProp 𝕄 := match o with
  | none => (outOwn c).view.loc (c : Thread nD τ) ↦[(outOwn c).view.set]{fullShare} OV X c
  | some (k, s) => (outHalf k s c).view.loc (c : Thread nD τ) ↦[(outHalf k s c).view.set]{fullShare} OV X c

/-- The share of a received piece that each of its readers gets: the next hop, the relay, the local store. -/
def shF : PosShare TreeShare := fullShare.left
def shX : PosShare TreeShare := fullShare.right.left
def shT : Kd → PosShare TreeShare
  | .rs => fullShare.right.right | .ls => fullShare.right.right | .xr => fullShare | .xl => fullShare

/-- What a copy reads. -/
def srcPts (k : Kd) (s : Fin 3) (q : Fin 8) (c : Dev nD) : sProp 𝕄 := match k, s with
  | .rs, 0 => ownPts X q c fullShare.left
  | .rs, 1 => pcPts X .rs 0 q c shF
  | .rs, 2 => pcPts X .rs 1 q c shF
  | .ls, 0 => ownPts X q c fullShare.right
  | .ls, 1 => pcPts X .ls 0 q c shF
  | .ls, 2 => pcPts X .ls 1 q c shF
  | .xr, s => pcPts X .rs s q c shX
  | .xl, s => pcPts X .ls s q c shX

/-- What a local store reads. -/
def stSrc (o : Option (Kd × Fin 3)) (c : Dev nD) : sProp 𝕄 := match o with
  | none => inPts X c
  | some (k, s) => slotPts X k s c (shT k)

/-- `P` if `b`, nothing otherwise. -/
def onlyIf (b : Bool) (P : sProp 𝕄) : sProp 𝕄 := if b then P else iprop(emp)
omit [FloatOps F] in
theorem onlyIf_true {b : Bool} (h : b = true) (P : sProp 𝕄) : onlyIf b P = P := if_pos h
omit [FloatOps F] in
theorem onlyIf_false {b : Bool} (h : ¬ b = true) (P : sProp 𝕄) : onlyIf b P = iprop(emp) := if_neg h

/-- Where a copy that `c` makes lands: the piece on the device it goes to. -/
def land (k : Kd) (s : Fin 3) (q : Fin 8) (c : Dev nD) : sProp 𝕄 := onlyIf (vS k s c) (pcAny k s q (tgt k c))

/-- All the landing pieces of a family. -/
def lands (k : Kd) (c : Dev nD) : sProp 𝕄 := bigSepL sqL fun p => land k p.1 p.2 c

/-- What the barrier's signals hand over: from the device to the left (0), the right (1), the peer (2). -/
def barPay (d : Fin 3) (c : Dev nD) : sProp 𝕄 := match d with
  | 0 => lands .ls c | 1 => lands .rs c | 2 => iprop(lands .xr c ∗ lands .xl c)

/-- Whether a local store happens. -/
def vT (o : Option (Kd × Fin 3)) (c : Dev nD) : Bool := match o with
  | none => true | some (k, s) => vR k s c
/-- Whether a barrier signal happens. -/
def vB (d : Fin 3) (c : Dev nD) : Bool := match d with
  | 0 => decide (0 < yN c) | 1 => decide (yN c < 3) | 2 => true

/-! ## The schedule -/

/-- What a piece, a half block, one's own block count on a semaphore. -/
def NP : ℕ := (pieceM .rs 0 0).view.dmaCredit
def NH : ℕ := (slotM .rs 0).view.dmaCredit
def NO : ℕ := (inM).view.dmaCredit
theorem NP_pos : 0 < NP := View.dmaCredit_pos _ (by decide)
theorem NH_pos : 0 < NH := View.dmaCredit_pos _ (by decide)
theorem NO_pos : 0 < NO := View.dmaCredit_pos _ (by decide)

def NT : Option (Kd × Fin 3) → ℕ | none => NO | some _ => NH
theorem NT_pos (o) : 0 < NT o := by cases o; exacts [NO_pos, NH_pos]

/-- Whether a cell's one round happens on device `c`. -/
def valid (κ : CK) (c : Dev nD) : Bool := match κ with
  | .no => false | .bar => true | .snd k s _ => vS k s c | .rcv k s _ => vR k s c | .st o => vT o c

def dutiesOf (κ : CK) (c : Dev nD) : Finset (Fin 3) := match κ with
  | .bar => Finset.univ.filter fun d => vB d c = true
  | κ => if valid κ c then {0} else ∅
def amountOf (κ : CK) (c : Dev nD) (d : Fin 3) : ℕ := match κ with
  | .bar => if d = 2 then amtP c else 1
  | .no => 1 | .snd _ _ _ => NP | .rcv _ _ _ => NP | .st o => NT o
def payOf (κ : CK) (c : Dev nD) (d : Fin 3) : sProp 𝕄 := match κ with
  | .bar => barPay d c
  | .no => iprop(emp)
  | .snd k s q => srcPts X k s q c
  | .rcv k s q => pcPts X k s q c fullShare
  | .st o => iprop(outPts X o c ∗ stSrc X o c)

theorem amtP_pos (c : Dev nD) : 0 < amtP c := by unfold amtP; split <;> decide

/-- One round for each cell: a copy's cells and a store's have one duty if the copy happens, the barrier one for each neighbour. -/
def Rd : Rounds.Schedule (GSem nD τ sig) (Fin 3) 𝕄 where
  duties g r := if r = 0 ∧ g.1.2 = .tc then dutiesOf (ck g.2) g.1.1 else ∅
  unitless _ := False
  amount g _ d := amountOf (ck g.2) g.1.1 d
  payload g _ d := payOf X (ck g.2) g.1.1 d
  amount_pos g _ d _ := by
    unfold amountOf
    split
    · split
      · exact amtP_pos _
      · exact Nat.one_pos
    · exact Nat.one_pos
    · exact NP_pos
    · exact NP_pos
    · exact NT_pos _

theorem pts_storable (ℓ : Loc nD τ sig) (I : Finset (Idx ℓ)) (sh : PosShare TreeShare) (f : Buf (Elt F) ℓ) :
    BI.Storable (upEmb : UEmb _ 𝕄) (ℓ ↦[I]{sh} f : sProp 𝕄) := inferInstance
instance pcPts_storable (k s q c sh) : BI.Storable (upEmb : UEmb _ 𝕄) (pcPts X k s q c sh) := by unfold pcPts; exact pts_storable _ _ _ _
instance pcAny_storable (k s q c) : BI.Storable (upEmb : UEmb _ 𝕄) (pcAny (F := F) k s q c) := by unfold pcAny; infer_instance
instance ownPts_storable (q c sh) : BI.Storable (upEmb : UEmb _ 𝕄) (ownPts X q c sh) := by unfold ownPts; exact pts_storable _ _ _ _
instance slotPts_storable (k s c sh) : BI.Storable (upEmb : UEmb _ 𝕄) (slotPts X k s c sh) := by unfold slotPts; exact pts_storable _ _ _ _
instance inPts_storable (c) : BI.Storable (upEmb : UEmb _ 𝕄) (inPts X c) := by unfold inPts; exact pts_storable _ _ _ _
instance outPts_storable (o c) : BI.Storable (upEmb : UEmb _ 𝕄) (outPts X o c) := by
  unfold outPts; split <;> exact pts_storable _ _ _ _
instance srcPts_storable (k s q c) : BI.Storable (upEmb : UEmb _ 𝕄) (srcPts X k s q c) := by
  unfold srcPts; split <;> infer_instance
instance stSrc_storable (o c) : BI.Storable (upEmb : UEmb _ 𝕄) (stSrc X o c) := by
  unfold stSrc; split <;> infer_instance
instance land_storable (k s q c) : BI.Storable (upEmb : UEmb _ 𝕄) (land (F := F) k s q c) := by
  unfold land onlyIf; split <;> infer_instance
theorem bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact inferInstanceAs (BI.Storable upEmb (iprop(emp) : sProp 𝕄))
  | cons a l ih => rw [bigSepL_cons']; infer_instance
instance lands_storable (k c) : BI.Storable (upEmb : UEmb _ 𝕄) (lands (F := F) k c) := bigSepL_storable _ _
instance payload_storable (g : GSem nD τ sig) (r : ℕ) (d : Fin 3) : BI.Storable (upEmb : UEmb _ 𝕄) ((Rd X).payload g r d) := by
  show BI.Storable upEmb (payOf X (ck g.2) g.1.1 d)
  unfold payOf barPay
  (repeat' split) <;> infer_instance

end Cert.KernelIdeal.AG
-- ==== Proof.Content.lean ====
module

public import proofs.«01_k».proof.Proof.Sched

/-! What each copy carries: the piece it reads holds what the piece it writes holds in the end. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → (cc0_stg0_0 : Ref sig .tc).ty.Contents (Elt F))

/-- A row of a piece, as a row of the half block. -/
def prow (q : Fin 8) (y : S32x512.Idx) : S256x512.Idx :=
  ix2 (n0 := 256) (n1 := 512) ⟨32 * q.val + (y 0).val, by have := q.isLt; have h : (y 0).val < 32 := (y 0).isLt; omega⟩ (y 1)

/-- A piece read through its view reads the buffer at its slot and rows. -/
theorem read_piece_of (M : Memref sig .tc .vmem S3x256x512 .f32) (s : Fin 3) (q : Fin 8) (f : M.view.ty.Contents (Elt F)) (y : S32x512.Idx) :
    ((M.slice (Rect.unit (s := S3x256x512) ![s.val, 32 * q.val, 0] S1x32x512.size (piece_inb s q)) (fun _ => rfl)).squeeze
      S32x512 squeezes_S1x32x512_S32x512).view.read (Elt F) f y
      = M.view.read (Elt F) f (ix3 (n0 := 3) (n1 := 256) (n2 := 512) s (prow q y 0) (prow q y 1)) := by
  refine (show _ = M.view.read (Elt F) f ((Rect.unit (s := S3x256x512) ![s.val, 32 * q.val, 0] S1x32x512.size (piece_inb s q)).emb
    (Shape.reshapeEquiv squeezes_S1x32x512_S32x512.numel_eq y)) from rfl).trans ?_
  rw [show Shape.reshapeEquiv squeezes_S1x32x512_S32x512.numel_eq y = Fin.cons ⟨0, Nat.one_pos⟩ y from Shape.reshapeEquiv_cons_one _ y]
  congr 1
  funext a
  apply Fin.ext
  rw [Rect.emb_apply]
  match a with
  | ⟨0, _⟩ => show s.val + 1 * 0 = s.val; omega
  | ⟨1, _⟩ => show 32 * q.val + 1 * (y 0).val = 32 * q.val + (y 0).val; omega
  | ⟨2, _⟩ => show 0 + 1 * (y 1).val = (y 1).val; omega

theorem read_slot_of (M : Memref sig .tc .vmem S3x256x512 .f32) (s : Fin 3) (f : M.view.ty.Contents (Elt F)) (y : S256x512.Idx) :
    ((M.slice (Rect.unit (s := S3x256x512) ![s.val, 0, 0] S1x256x512.size (slot_inb s)) (fun _ => rfl)).squeeze
      S256x512 squeezes_S1x256x512_S256x512).view.read (Elt F) f y
      = M.view.read (Elt F) f (ix3 (n0 := 3) (n1 := 256) (n2 := 512) s (y 0) (y 1)) := by
  refine (show _ = M.view.read (Elt F) f ((Rect.unit (s := S3x256x512) ![s.val, 0, 0] S1x256x512.size (slot_inb s)).emb
    (Shape.reshapeEquiv squeezes_S1x256x512_S256x512.numel_eq y)) from rfl).trans ?_
  rw [show Shape.reshapeEquiv squeezes_S1x256x512_S256x512.numel_eq y = Fin.cons ⟨0, Nat.one_pos⟩ y from Shape.reshapeEquiv_cons_one _ y]
  congr 1
  funext a
  apply Fin.ext
  rw [Rect.emb_apply]
  match a with
  | ⟨0, _⟩ => show s.val + 1 * 0 = s.val; omega
  | ⟨1, _⟩ => show 0 + 1 * (y 0).val = (y 0).val; omega
  | ⟨2, _⟩ => show 0 + 1 * (y 1).val = (y 1).val; omega

theorem V_read (k : Kd) (c : Dev nD) : (bufM k).view.read (Elt F) (V X k c) = VV X k c := by cases k <;> rfl

theorem read_piece (k : Kd) (s : Fin 3) (q : Fin 8) (c : Dev nD) :
    (pieceM k s q).view.read (Elt F) (V X k c) = fun y => OWN X (org k s c) (prow q y) := by
  funext y
  refine (read_piece_of (bufM k) s q (V X k c) y).trans ?_
  rw [V_read]
  unfold VV
  exact congrArg _ (eq_ix2 (prow q y)).symm

theorem read_slot (k : Kd) (s : Fin 3) (c : Dev nD) :
    (slotM k s).view.read (Elt F) (V X k c) = fun y => OWN X (org k s c) y := by
  funext y
  refine (read_slot_of (bufM k) s (V X k c) y).trans ?_
  rw [V_read]
  unfold VV
  exact congrArg _ (eq_ix2 y).symm

theorem read_own (q : Fin 8) (c : Dev nD) :
    (ownPieceM q).view.read (Elt F) (OWN X c) = fun y => OWN X c (prow q y) := by
  funext y
  refine (show _ = OWN X c ((Rect.unit (s := S256x512) ![32 * q.val, 0] S32x512.size (own_inb q)).emb y) from rfl).trans ?_
  congr 1
  funext a
  apply Fin.ext
  rw [Rect.emb_apply]
  match a with
  | ⟨0, _⟩ => show 32 * q.val + 1 * (y 0).val = 32 * q.val + (y 0).val; omega
  | ⟨1, _⟩ => show 0 + 1 * (y 1).val = (y 1).val; omega

/-- The share and the contents that a copy reads; they are those of the piece it writes. -/
theorem src_info (k : Kd) (s : Fin 3) (q : Fin 8) (c : Dev nD) :
    ∃ (sh : PosShare TreeShare) (fs : Buf (Elt F) ((srcM k s q).view.loc (c : Thread nD τ))),
      srcPts X k s q c = ((srcM k s q).view.loc (c : Thread nD τ) ↦[(srcM k s q).view.set]{sh} fs : sProp 𝕄)
      ∧ (srcM k s q).view.read (Elt F) fs = (pieceM k s q).view.read (Elt F) (V X k (tgt k c)) := by
  cases k
  · match s with
    | 0 => exact ⟨_, OWN X c, rfl, by rw [read_piece, org_rs0]; exact read_own X q c⟩
    | 1 => exact ⟨_, V X .rs c, rfl, by rw [read_piece, org_rs1]; exact read_piece X .rs 0 q c⟩
    | 2 => exact ⟨_, V X .rs c, rfl, by rw [read_piece, org_rs2]; exact read_piece X .rs 1 q c⟩
  · match s with
    | 0 => exact ⟨_, OWN X c, rfl, by rw [read_piece, org_ls0]; exact read_own X q c⟩
    | 1 => exact ⟨_, V X .ls c, rfl, by rw [read_piece, org_ls1]; exact read_piece X .ls 0 q c⟩
    | 2 => exact ⟨_, V X .ls c, rfl, by rw [read_piece, org_ls2]; exact read_piece X .ls 1 q c⟩
  · exact ⟨_, V X .rs c, rfl, by rw [read_piece, org_xr]; exact read_piece X .rs s q c⟩
  · exact ⟨_, V X .ls c, rfl, by rw [read_piece, org_xl]; exact read_piece X .ls s q c⟩

/-- A view written with what it reads of `g` holds `g` on its elements. -/
theorem pts_written {sp : Space} {sh : Shape} {e : EltTy} (M : Memref sig .tc sp sh e) (c : Dev nD) (fd g : Buf (Elt F) (M.view.loc (c : Thread nD τ))) :
    (M.view.loc (c : Thread nD τ) ↦[M.view.set]{fullShare} (M.view.write (Elt F) fd (M.view.read (Elt F) g) Finset.univ) : sProp 𝕄)
      = (M.view.loc (c : Thread nD τ) ↦[M.view.set]{fullShare} g) := by
  refine pointsTo_congr fun i hi => ?_
  have h := congrFun (View.write_read_eq_piecewise (Val := Elt F) (v := M.view) fd g Finset.univ) i
  exact h.trans (Finset.piecewise_eq_of_mem _ _ _ hi)

theorem org_facts (k : Kd) (s : Fin 3) (c : Dev nD) (h : vR k s c = true) :
    yN (org k s c) ≠ yN c ∧ at3 ((org k s c).val / 16) (yN (org k s c)) c = org k s c := by
  cases k <;> revert h <;> revert s c <;> decide +kernel

theorem lt32 (c : Dev nD) : c.val < 32 := c.isLt

/-- The rows of the result that a received half block goes to hold it. -/
theorem read_half (k : Kd) (s : Fin 3) (c : Dev nD) (h : vR k s c = true) :
    (outHalf k s c).view.read (Elt F) (OV X c) = fun y => OWN X (org k s c) y := by
  funext y
  refine (show _ = OV X c ((Rect.unit (s := S2048x512) (offW k s c) S256x512.size (offW_inb k s c)).emb y) from rfl).trans ?_
  have hy : (y 0).val < 256 := (y 0).isLt
  have hx : (org k s c).val / 16 < 2 := by have := lt32 (org k s c); omega
  obtain ⟨h0, h1⟩ := offW_eq k s c h
  obtain ⟨hne, hat⟩ := org_facts k s c h
  have e0 : ((Rect.unit (s := S2048x512) (offW k s c) S256x512.size (offW_inb k s c)).emb y 0).val
      = 512 * yN (org k s c) + 256 * ((org k s c).val / 16) + (y 0).val := by
    rw [Rect.emb_apply]; show offW k s c 0 + 1 * (y 0).val = _; rw [h0]; omega
  have e1 : (Rect.unit (s := S2048x512) (offW k s c) S256x512.size (offW_inb k s c)).emb y 1 = y 1 := by
    apply Fin.ext
    rw [Rect.emb_apply]; show offW k s c 1 + 1 * (y 1).val = _; rw [h1]; omega
  have d1 : ((Rect.unit (s := S2048x512) (offW k s c) S256x512.size (offW_inb k s c)).emb y 0).val / 512 = yN (org k s c) := by rw [e0]; omega
  have d2 : ((Rect.unit (s := S2048x512) (offW k s c) S256x512.size (offW_inb k s c)).emb y 0).val % 512 / 256 = (org k s c).val / 16 := by rw [e0]; omega
  have d3 : ((Rect.unit (s := S2048x512) (offW k s c) S256x512.size (offW_inb k s c)).emb y 0).val % 256 = (y 0).val := by rw [e0]; omega
  unfold OV
  rw [if_neg (by rw [d1]; exact hne), d1, d2, d3, hat, e1]
  congr 1
  refine Eq.trans ?_ (eq_ix2 y).symm
  congr 1
  exact Fin.ext (Nat.mod_eq_of_lt hy)

/-- The rows of the result at one's own place hold one's own block. -/
theorem read_outOwn (c : Dev nD) : (outOwn c).view.read (Elt F) (OV X c) = X c := by
  funext y
  refine (show _ = OV X c ((Rect.unit (s := S2048x512) (k0_off2 c) S512x512.size (k0_off2_inb c)).emb y) from rfl).trans ?_
  have hy : (y 0).val < 512 := (y 0).isLt
  have ho : k0_off2 c = ![512 * (c.val / 4 % 4), 0] := k0_off2_eq c
  have e0 : ((Rect.unit (s := S2048x512) (k0_off2 c) S512x512.size (k0_off2_inb c)).emb y 0).val = 512 * yN c + (y 0).val := by
    rw [Rect.emb_apply]; show k0_off2 c 0 + 1 * (y 0).val = _; rw [ho]; exact congrArg (512 * yN c + ·) (Nat.one_mul _)
  have e1 : (Rect.unit (s := S2048x512) (k0_off2 c) S512x512.size (k0_off2_inb c)).emb y 1 = y 1 := by
    apply Fin.ext
    rw [Rect.emb_apply]; show k0_off2 c 1 + 1 * (y 1).val = _; rw [ho]; show 0 + 1 * (y 1).val = _; omega
  have d1 : ((Rect.unit (s := S2048x512) (k0_off2 c) S512x512.size (k0_off2_inb c)).emb y 0).val / 512 = yN c := by rw [e0]; omega
  have d2 : ((Rect.unit (s := S2048x512) (k0_off2 c) S512x512.size (k0_off2_inb c)).emb y 0).val % 512 = (y 0).val := by rw [e0]; omega
  unfold OV
  rw [if_pos d1, d2, e1]
  congr 1
  refine Eq.trans ?_ (eq_ix2 y).symm
  congr 1
  exact Fin.ext (Nat.mod_eq_of_lt hy)

end Cert.KernelIdeal.AG
-- ==== Proof.Machine.lean ====
module

public import proofs.«01_k».proof.Proof.Content

/-! What a device holds on its way through the body, as assertions; the rules of the waits and the copies at the schedule. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → (cc0_stg0_0 : Ref sig .tc).ty.Contents (Elt F))

/-! ## The schedule at a cell -/

section Sched
variable {sm : SemLoc sig} {κ : CK} (hκ : ck sm = κ) (c : Dev nD)
include hκ

theorem duties_of : (Rd X).duties ((c : Thread nD τ), sm) 0 = dutiesOf κ c := by
  subst hκ
  show (if (0 : ℕ) = 0 ∧ ((c : Thread nD τ)).2 = .tc then dutiesOf (ck sm) c else ∅) = dutiesOf (ck sm) c
  exact if_pos (And.intro rfl rfl)
theorem amount_of (d : Fin 3) : (Rd X).amount ((c : Thread nD τ), sm) 0 d = amountOf κ c d := by subst hκ; rfl
theorem payload_of (d : Fin 3) : (Rd X).payload ((c : Thread nD τ), sm) 0 d = payOf X κ c d := by subst hκ; rfl
end Sched

theorem duties_later (g : GSem nD τ sig) (r : ℕ) (hr : 1 ≤ r) : (Rd X).duties g r = ∅ := if_neg fun h => by omega

theorem dutiesOf_one {κ : CK} (hb : κ ≠ .bar) (c : Dev nD) : dutiesOf κ c = if valid κ c then {0} else ∅ := by
  cases κ <;> first | rfl | exact absurd rfl hb

theorem duties_invalid {sm : SemLoc sig} {κ : CK} (hκ : ck sm = κ) (c : Dev nD) (hb : κ ≠ .bar) (hv : ¬ valid κ c = true) (r : ℕ) :
    (Rd X).duties ((c : Thread nD τ), sm) r = ∅ := by
  rcases Nat.eq_zero_or_pos r with rfl | hr
  · rw [duties_of X hκ, dutiesOf_one hb, if_neg hv]
  · exact duties_later X _ r hr

section One
variable {sm : SemLoc sig} {κ : CK} (hκ : ck sm = κ) (c : Dev nD) (hb : κ ≠ .bar) (hv : valid κ c = true)
include hκ hb hv

theorem mem_duties : (0 : Fin 3) ∈ (Rd X).duties ((c : Thread nD τ), sm) 0 := by
  rw [duties_of X hκ, dutiesOf_one hb, if_pos hv]; exact Finset.mem_singleton_self _
theorem expect_of : (Rd X).expect ((c : Thread nD τ), sm) 0 = amountOf κ c 0 := by
  unfold Schedule.expect Schedule.amountOf
  rw [duties_of X hκ, dutiesOf_one hb, if_pos hv, Finset.sum_singleton, amount_of X hκ]
theorem rest_of : bigSep ((Rd X).duties ((c : Thread nD τ), sm) 0 \ ∅) (fun d => (Rd X).payload ((c : Thread nD τ), sm) 0 d) = payOf X κ c 0 := by
  rw [Finset.sdiff_empty, duties_of X hκ, dutiesOf_one hb, if_pos hv, bigSep_singleton, payload_of X hκ]
end One

/-! ## Levels and what is owed -/

def L (g : GSem nD τ sig) : Finset Unit := if g.1.2 = .tc then {()} else ∅
def clv : CK → ℕ | .bar => 1 | .rcv k s q => oweLv (.r k s q) | _ => 0
def lv (g : GSem nD τ sig) (_ : Unit) : ℕ := clv (ck g.2)

theorem L_of_ne (g : GSem nD τ sig) (h : g.1.2 ≠ .tc) : L g = ∅ := if_neg h
theorem L_tc (c : Dev nD) (sm : SemLoc sig) : L ((c : Thread nD τ), sm) = {()} := if_pos rfl

/-- Whose barrier a signal goes to. -/
def bTgt : Fin 3 → Dev nD → Dev nD | 0, c => tgt .rs c | 1, c => tgt .ls c | 2, c => peer c

/-- The cell an owed item is at, how much it is, and whether it is owed at all. -/
def oweCell : Owe → Dev nD → GSem nD τ sig
  | .b d, c => bCell (bTgt d c) | .r k s q, c => rCell k s q (tgt k c)
def oweAmt : Owe → Dev nD → ℕ
  | .b d, c => amountOf .bar (bTgt d c) d | .r _ _ _, _ => NP
def oweIf : Owe → Dev nD → Bool
  | .b d, c => vB d (bTgt d c) | .r k s _, c => vS k s c
def oweT (o : Owe) (c : Dev nD) : CellTallies nD τ sig Unit := if oweIf o c then tallyAt (oweCell o c) () (oweAmt o c) else 0
def oweSum : List Owe → Dev nD → CellTallies nD τ sig Unit
  | [], _ => 0 | o :: os, c => oweSum os c + oweT o c

theorem oweCell_lv (o : Owe) (c : Dev nD) : lv (oweCell o c) () = oweLv o ∧ L (oweCell o c) = {()} := by
  cases o with
  | b d => exact ⟨congrArg clv ck_bar, L_tc _ _⟩
  | r k s q => exact ⟨congrArg clv (ck_rcv k s q), L_tc _ _⟩

theorem oweSum_pos {ow : List Owe} {c : Dev nD} {g : GSem nD τ sig} {u : Unit} (h : 0 < oweSum ow c g u) : ∃ o ∈ ow, g = oweCell o c := by
  induction ow with
  | nil => exact absurd h (Nat.lt_irrefl 0)
  | cons o os ih =>
    unfold oweSum at h
    rw [Pi.add_apply, Finsupp.add_apply] at h
    by_cases ho : 0 < oweSum os c g u
    · obtain ⟨o', h1, h2⟩ := ih ho
      exact ⟨o', List.mem_cons_of_mem _ h1, h2⟩
    · refine ⟨o, List.mem_cons_self, ?_⟩
      have h' : 0 < oweT o c g u := by omega
      unfold oweT at h'
      split at h'
      · rw [tallyAt_apply] at h'
        by_contra hn
        rw [if_neg fun hh => hn hh.1] at h'
        exact Nat.lt_irrefl 0 h'
      · exact absurd h' (Nat.lt_irrefl 0)

theorem mayWait (c : Dev nD) (sm : SemLoc sig) (n : ℕ) (hn : clv (ck sm) ≤ n) (ow : List Owe) (ha : above n ow = true) :
    (levAts L lv : sProp 𝕄) ⊢ MayWait (c : Thread nD τ) sm () (oweSum ow c) := by
  refine MayOwe.of_cut (L := L) (lev := lv) n (fun p hp => by rw [Finset.mem_singleton.mp hp, L_tc]; exact Finset.mem_singleton_self _)
    (fun g u hg => ?_) (fun p hp => by rw [Finset.mem_singleton.mp hp]; exact hn) (fun g u hg => ?_)
  · obtain ⟨o, _, rfl⟩ := oweSum_pos hg
    rw [(oweCell_lv o c).2]; exact Finset.mem_singleton_self _
  · obtain ⟨o, ho, rfl⟩ := oweSum_pos hg
    have := List.all_eq_true.mp ha o ho
    have h2 : n < oweLv o := by simpa using this
    exact lt_of_lt_of_eq h2 (oweCell_lv o c).1.symm

/-- What the device still owes, with whatever waits it has made. -/
def OW (ow : List Owe) (c : Dev nD) : sProp 𝕄 := iprop(∃ W, owes (c : Thread nD τ) (oweSum ow c) W)

/-! ## The cells' records -/

/-- The protocol's semaphores: the barrier's, and the DMA semaphores from 2 on. -/
def csem (i : Fin 206) : SemLoc sig := if i = 0 then .reg barSem else .dma ⟨i.val + 1, by have := i.isLt; show _ < 207; omega⟩
abbrev kcell (ci : Dev nD × Fin 206) : GSem nD τ sig := ((ci.1 : Thread nD τ), csem ci.2)

def records (K : Dev nD × Fin 206 → ℕ) : sProp 𝕄 :=
  iprop((bigSep Finset.univ fun ci : Dev nD × Fin 206 => cellInv ER (Rd X) (K ci) (kcell ci))
    ∗ bigSep Finset.univ fun ci : Dev nD × Fin 206 => reached ER (kcell ci) 0)
instance records_persistent (K) : BI.Persistent (records X K) := by unfold records; infer_instance

/-- The levels of all cells. -/
@[irreducible] def LEV : sProp 𝕄 := levAts L lv
instance LEV_persistent : BI.Persistent (LEV (F := F)) := by unfold LEV; infer_instance
theorem mayWait' (c : Dev nD) (sm : SemLoc sig) (n : ℕ) (hn : clv (ck sm) ≤ n) (ow : List Owe) (ha : above n ow = true) :
    (LEV : sProp 𝕄) ⊢ MayWait (c : Thread nD τ) sm () (oweSum ow c) := by
  unfold LEV; exact mayWait c sm n hn ow ha

/-- All a device knows: every cell's invariant, that every cell is at its first round, and the levels. -/
def ctx (K : Dev nD × Fin 206 → ℕ) : sProp 𝕄 := iprop(records X K ∗ LEV)
instance ctx_persistent (K) : BI.Persistent (ctx X K) := by unfold ctx; infer_instance

theorem csem_of (sm : SemLoc sig) (h : ck sm ≠ .no) : ∃ i, csem i = sm := by
  cases sm with
  | reg b =>
    have h' : (if b = barSem then CK.bar else CK.no) ≠ CK.no := h
    by_cases hb : b = barSem
    · exact ⟨0, by subst hb; rfl⟩
    · rw [if_neg hb] at h'; exact absurd rfl h'
  | dma n =>
    have h2 : 2 ≤ n.val := by
      by_contra hn
      exact h (if_pos (by omega))
    have hlt : n.val < 207 := n.isLt
    refine ⟨⟨n.val - 1, by omega⟩, ?_⟩
    unfold csem
    rw [if_neg (fun h0 => by have := congrArg Fin.val h0; simp at this; omega)]
    exact congrArg SemLoc.dma (Fin.ext (by show n.val - 1 + 1 = n.val; omega))

theorem inv_at (K : Dev nD × Fin 206 → ℕ) (ci : Dev nD × Fin 206) :
    (bigSep Finset.univ fun ci : Dev nD × Fin 206 => (cellInv ER (Rd X) (K ci) (kcell ci) : sProp 𝕄)) ⊢ cellInv ER (Rd X) (K ci) (kcell ci) :=
  bigSep_elim (Finset.mem_univ ci)
theorem reached_at (ci : Dev nD × Fin 206) :
    (bigSep Finset.univ fun ci : Dev nD × Fin 206 => (reached ER (kcell ci) 0 : sProp 𝕄)) ⊢ reached ER (kcell ci) 0 :=
  bigSep_elim (Finset.mem_univ ci)

/-- A cell's record, found among all. -/
theorem rec_at (K : Dev nD × Fin 206 → ℕ) (c : Dev nD) (sm : SemLoc sig) (h : ck sm ≠ .no) :
    ctx X K ⊢ iprop(∃ κ, cellInv ER (Rd X) κ ((c : Thread nD τ), sm) ∗ reached ER ((c : Thread nD τ), sm) 0) := by
  obtain ⟨i, rfl⟩ := csem_of sm h
  unfold ctx records
  iintro ⟨⟨HI, HR⟩, -⟩
  iexists K (c, i)
  isplitl [HI]
  · iapply (inv_at X K (c, i)); iexact HI
  · iapply (reached_at (F := F) (c, i)); iexact HR

theorem lev_at (K : Dev nD × Fin 206 → ℕ) : ctx X K ⊢ LEV := by
  unfold ctx; iintro ⟨-, H⟩; iexact H

/-! ## The rules -/

abbrev 𝒱₀ : Variants := Variants.none

/-- The body's weakest precondition on device `c`. -/
abbrev WP (c : Dev nD) (p : PF F PUnit) (Q : PUnit → sProp 𝕄) : sProp 𝕄 :=
  wp frame (wpE (defs₀ (F := F)) 𝒱₀ (c : Thread nD τ) none) Set.univ p Q

/-- A wait at a cell with one duty: what the duty hands over. -/
theorem wp_waitOne (K : Dev nD × Fin 206 → ℕ) (c : Dev nD) {w : TpuEff nD τ sig (Elt F) Λ₀ .tc PUnit} {sm : SemLoc sig} {κ : CK} (hκ : ck sm = κ)
    {N : ℕ} (hb : κ ≠ .bar) (hno : κ ≠ .no) (hv : valid κ c = true) (hN : amountOf κ c 0 = N)
    (hw : ∀ G : PUnit → sProp 𝕄, wpE (defs₀ (F := F)) 𝒱₀ (c : Thread nD τ) none Set.univ w G = waitSpec (c : Thread nD τ) Set.univ sm N G)
    (n : ℕ) (hn : clv κ ≤ n) (ow : List Owe) (ha : above n ow = true) {k : PUnit → PF F PUnit} {Q : PUnit → sProp 𝕄} :
    iprop(ctx X K ∗ cred (tallyAt ((c : Thread nD τ), sm) () N) ∗ atPos ER ((c : Thread nD τ), sm) 0 ∅ 0 ∗ OW ow c)
      ⊢ iprop(((atPos ER ((c : Thread nD τ), sm) 1 ∅ 0 ∗ payOf X κ c 0 ∗ OW ow c) -∗ WP c (k ⟨⟩) Q) -∗ WP c (.op w k) Q) := by
  have hn' : clv (ck sm) ≤ n := by rw [hκ]; exact hn
  have hm : ctx X K ⊢ MayWait (c : Thread nD τ) sm () (oweSum ow c) := (lev_at X K).trans (mayWait' c sm n hn' ow ha)
  unfold OW
  iintro ⟨#Hc, Hcr, Hat, ⟨%W, HO⟩⟩ Hk
  ihave Hr := (rec_at X K c sm (hκ ▸ hno)) $$ Hc
  icases Hr with ⟨%κ', #HI, #HR⟩
  iapply (Rounds.wp_wait_rest_token 𝒱₀ ER (Rd X) (c : Thread nD τ) none (κ := κ') (sm := sm) (k' := N)
      hw (Set.mem_univ _) () (O := oweSum ow c) (W := W) (R := 0) (m := 0) (T := ∅)
      ((Nat.zero_add N).trans (hN.symm.trans (expect_of X hκ c hb hv).symm))) $$ [Hcr HO Hat]
  · isplitr; · iexact HI
    isplitl [Hcr]; · iexact Hcr
    isplitl [HO]; · iexact HO
    isplitr; · iapply hm; iexact Hc
    iexact Hat
  iintro ⟨HO, Hat, -, Hpay⟩
  ihave Hp := (Entails.of_eq (rest_of X hκ c hb hv)) $$ Hpay
  iapply Hk
  isplitl [Hat]; · iexact Hat
  isplitl [Hp]; · iexact Hp
  iexists _; iexact HO

/-- A barrier signal. -/
theorem wp_sig (K : Dev nD × Fin 206 → ℕ) (c : Dev nD) (d : Fin 3) (n : Dev nD) (hn : n = bTgt d c) (hv : vB d (bTgt d c) = true) (z : ℤ)
    (hz : z = (amountOf .bar (bTgt d c) d : ℕ)) (ow : List Owe) {k : PUnit → PF F PUnit} {Q : PUnit → sProp 𝕄} :
    iprop(ctx X K ∗ dutyTok ER (bCell (bTgt d c)) 0 d ∗ barPay d (bTgt d c) ∗ OW (.b d :: ow) c)
      ⊢ iprop((OW ow c -∗ WP c (k ⟨⟩) Q) -∗ WP c (.op (.semSignal (n : Thread nD τ) barSem z) k) Q) := by
  subst hn hz
  have hp : (barPay d (bTgt d c) : sProp 𝕄) = (Rd X).payload (bCell (bTgt d c)) 0 d := (payload_of X ck_bar (bTgt d c) d).symm
  unfold OW
  iintro ⟨#Hc, Ht, Hp, ⟨%W, HO⟩⟩ Hk
  ihave Hr := (rec_at X K (bTgt d c) (.reg barSem) (by rw [ck_bar]; exact fun h => by cases h)) $$ Hc
  icases Hr with ⟨%κ', #HI, #HR⟩
  iapply (Rounds.wp_signal 𝒱₀ ER (Rd X) (c : Thread nD τ) none (dst := (bTgt d c : Thread nD τ)) (κ := κ') (r := 0)
      (d := d) (by rw [duties_of X ck_bar]; exact Finset.mem_filter.mpr ⟨Finset.mem_univ _, hv⟩) (amount_of X ck_bar (bTgt d c) d) ()
      (oweSum ow c) (O₀ := oweSum (.b d :: ow) c) (by show oweSum ow c + oweT (.b d) c = _; rw [show oweT (.b d) c = _ from if_pos hv]; rfl)) $$ [HO Ht Hp]
  · isplitr; · iexact HI
    isplitl [HO]; · iexact HO
    isplitl [Ht]; · iexact Ht
    isplitl [Hp]; · iapply (Entails.of_eq hp); iexact Hp
    iexact HR
  iintro HO
  iapply Hk
  iexists _; iexact HO

/-- A copy to another device. -/
theorem wp_sendOne (K : Dev nD × Fin 206 → ℕ) (c : Dev nD) (k : Kd) (s : Fin 3) (q : Fin 8) (n : Dev nD) (hn : n = tgt k c) (hv : vS k s c = true)
    (ow : List Owe) {hsc : (pieceM k s q).view.ref.isScScratch = false} {hsrc : (srcM k s q).view.WordExact} {hdst : (pieceM k s q).view.WordExact}
    {hsem : DmaTarget.Typed .vmem (.dma (sR k s q)) (.remote (Dev.tc n : Thread nD τ) (pieceM k s q) (.dma (sS k s q)) hsc)}
    (hNP : (pieceM k s q).view.dmaCredit = NP) {kt : PUnit → PF F PUnit} {Q : PUnit → sProp 𝕄} :
    iprop(ctx X K ∗ srcPts X k s q c ∗ pcAny k s q (tgt k c) ∗ dutyTok ER (sCell k s q c) 0 0 ∗ dutyTok ER (rCell k s q (tgt k c)) 0 0 ∗ OW (.r k s q :: ow) c)
      ⊢ iprop(((cred (tallyAt (sCell k s q c) () NP) ∗ OW ow c) -∗ WP c (kt ⟨⟩) Q)
          -∗ WP c (.op (.enqueueDma (srcM k s q) (.remote (Dev.tc n : Thread nD τ) (pieceM k s q) (.dma (sS k s q)) hsc) (.dma (sR k s q)) hsrc hdst hsem) kt) Q) := by
  subst hn
  obtain ⟨sh, fs, hsp, hrd⟩ := src_info X k s q c
  have hv' : vR k s (tgt k c) = true := (vR_tgt k s c).trans hv
  unfold OW pcAny
  iintro ⟨#Hc, Hs, ⟨%fd, Hd⟩, Ht1, Ht2, ⟨%W, HO⟩⟩ Hk
  ihave Hr := (rec_at X K c (.dma (sS k s q)) (by rw [ck_snd]; exact fun h => by cases h)) $$ Hc
  icases Hr with ⟨%κ₁, #HI1, #HR1⟩
  ihave Hr := (rec_at X K (tgt k c) (.dma (sR k s q)) (by rw [ck_rcv]; exact fun h => by cases h)) $$ Hc
  icases Hr with ⟨%κ₂, #HI2, #HR2⟩
  ihave Hs := (Entails.of_eq hsp) $$ Hs
  iapply (Rounds.wp_send_pointsTo 𝒱₀ ER (Rd X) (c : Thread nD τ) none (κ₁ := κ₁) (κ₂ := κ₂) (c' := (tgt k c : Thread nD τ))
    (r₁ := 0) (r₂ := 0) (d₁ := 0) (d₂ := 0) (fd := fd) (fs := fs) (q := sh)
    (mem_duties X (ck_snd k s q) c (fun h => by cases h) hv) (mem_duties X (ck_rcv k s q) (tgt k c) (fun h => by cases h) hv')
    () () NP hNP (amount_of X (ck_snd k s q) c 0) (amount_of X (ck_rcv k s q) (tgt k c) 0) (oweSum ow c) (O₀ := oweSum (.r k s q :: ow) c)
    (by show oweSum ow c + oweT (.r k s q) c = _; rw [show oweT (.r k s q) c = _ from if_pos hv]; rfl) (W := W)
    (by rw [payload_of X (ck_snd k s q) c]; exact Entails.of_eq hsp.symm)
    (by rw [payload_of X (ck_rcv k s q) (tgt k c), hrd]; exact Entails.of_eq (pts_written (pieceM k s q) (tgt k c) fd (V X k (tgt k c))))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hcr, HO⟩
  iapply Hk
  isplitl [Hcr]; · iexact Hcr
  iexists _; iexact HO

/-- A local store. -/
theorem wp_storeOne (K : Dev nD × Fin 206 → ℕ) (c : Dev nD) (o : Option (Kd × Fin 3)) (hv : vT o c = true) {sh : Shape} {e : EltTy}
    (S : Memref sig .tc .vmem sh e) (D : Memref sig .tc .vmem sh e) (sm : DmaSem sig) (hsm : sm = sTo o)
    {hsrc : S.view.WordExact} {hdst : D.view.WordExact} {hsem : DmaTarget.Typed (nD := nD) (τ := τ) (p := .tc) .vmem (.dma sm) (.here D)}
    (p : PosShare TreeShare) (fs : Buf (Elt F) (S.view.loc (c : Thread nD τ))) (g : Buf (Elt F) (D.view.loc (c : Thread nD τ)))
    (hrd : D.view.read (Elt F) g = S.view.read (Elt F) fs)
    (hS : stSrc X o c = (S.view.loc (c : Thread nD τ) ↦[S.view.set]{p} fs : sProp 𝕄))
    (hD : outPts X o c = (D.view.loc (c : Thread nD τ) ↦[D.view.set]{fullShare} g : sProp 𝕄))
    (hA : outAny o c = iprop(∃ f : Buf (Elt F) (D.view.loc (c : Thread nD τ)), D.view.loc (c : Thread nD τ) ↦[D.view.set]{fullShare} f))
    (hN : D.view.dmaCredit = NT o) {kt : PUnit → PF F PUnit} {Q : PUnit → sProp 𝕄} :
    iprop(ctx X K ∗ stSrc X o c ∗ outAny o c ∗ dutyTok ER (tCell o c) 0 0)
      ⊢ iprop((cred (tallyAt (tCell o c) () (NT o)) -∗ WP c (kt ⟨⟩) Q)
          -∗ WP c (.op (.enqueueDma S (.here D) (.dma sm) hsrc hdst hsem) kt) Q) := by
  subst hsm
  iintro ⟨#Hc, Hs, Hd, Ht⟩ Hk
  ihave Hr := (rec_at X K c (.dma (sTo o)) (by rw [ck_st]; exact fun h => by cases h)) $$ Hc
  icases Hr with ⟨%κ₁, #HI, #HR⟩
  ihave Hs := (Entails.of_eq hS) $$ Hs
  ihave Hd := (Entails.of_eq hA) $$ Hd
  icases Hd with ⟨%fd, Hd⟩
  iapply (Rounds.wp_copy_pointsTo 𝒱₀ ER (Rd X) (c : Thread nD τ) none (κ := κ₁) (r := 0) (d := 0) (fd := fd) (fs := fs) (q := p)
    (mem_duties X (ck_st o) c (fun h => by cases h) hv) () (NT o) hN (amount_of X (ck_st o) c 0)
    (by
      rw [payload_of X (ck_st o) c, ← hrd]
      show _ ⊢ iprop(outPts X o c ∗ stSrc X o c)
      rw [hS, hD, pts_written D c fd g])) $$ [Hs Hd Ht]
  · isplitr; · iexact HI
    isplitl [Hs]; · iexact Hs
    isplitl [Hd]; · iexact Hd
    isplitl [Ht]; · iexact Ht
    iexact HR
  iexact Hk

end Cert.KernelIdeal.AG
-- ==== Proof.Parts.lean ====
module

public import proofs.«01_k».proof.Proof.Content
public import Idealize.ShloMosaic.Lib.Ring

/-! The buffers cut up: a family's buffer into pieces, a slot into its pieces, one's own half block into pieces, the result
into the rows of its stores. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → (cc0_stg0_0 : Ref sig .tc).ty.Contents (Elt F))

instance : Fintype Kd := ⟨{.rs, .ls, .xr, .xl}, fun k => by cases k <;> decide⟩

theorem univ_qs : (Finset.univ : Finset (Fin 8)) = qs.toFinset := by decide
theorem nodup_qs : qs.Nodup := by decide
theorem univ_sq : (Finset.univ : Finset (Fin 3 × Fin 8)) = sqL.toFinset := by decide +kernel
theorem nodup_sq : sqL.Nodup := by decide +kernel
theorem univ_o : (Finset.univ : Finset (Option (Kd × Fin 3))) = oL.toFinset := by decide +kernel
theorem nodup_o : oL.Nodup := by decide +kernel
theorem univ_ksq : (Finset.univ : Finset (Kd × Fin 3 × Fin 8)) = ksqL.toFinset := by decide +kernel
theorem nodup_ksq : ksqL.Nodup := by decide +kernel

/-! ## The element sets -/

def pSet (p : Fin 3 × Fin 8) : Finset S3x256x512.Idx := (Rect.unit (s := S3x256x512) ![p.1.val, 32 * p.2.val, 0] S1x32x512.size (piece_inb p.1 p.2)).set
def slSet (s : Fin 3) : Finset S3x256x512.Idx := (Rect.unit (s := S3x256x512) ![s.val, 0, 0] S1x256x512.size (slot_inb s)).set
def oSet (q : Fin 8) : Finset S256x512.Idx := (Rect.unit (s := S256x512) ![32 * q.val, 0] S32x512.size (own_inb q)).set

theorem mem_pSet (p : Fin 3 × Fin 8) (i : S3x256x512.Idx) : i ∈ pSet p ↔ (i 0).val = p.1.val ∧ (i 1).val / 32 = p.2.val := by
  unfold pSet
  rw [Rect.mem_set_unit]
  have h2 : (i 2).val < 512 := (i 2).isLt
  constructor
  · intro h
    have h0 : p.1.val ≤ (i 0).val ∧ (i 0).val < p.1.val + 1 := h 0
    have h1 : 32 * p.2.val ≤ (i 1).val ∧ (i 1).val < 32 * p.2.val + 32 := h 1
    omega
  · rintro ⟨h0, h1⟩ a
    match a with
    | ⟨0, _⟩ => show p.1.val ≤ (i 0).val ∧ (i 0).val < p.1.val + 1; omega
    | ⟨1, _⟩ => show 32 * p.2.val ≤ (i 1).val ∧ (i 1).val < 32 * p.2.val + 32; omega
    | ⟨2, _⟩ => show 0 ≤ (i 2).val ∧ (i 2).val < 0 + 512; omega

theorem mem_slSet (s : Fin 3) (i : S3x256x512.Idx) : i ∈ slSet s ↔ (i 0).val = s.val := by
  unfold slSet
  rw [Rect.mem_set_unit]
  have h1 : (i 1).val < 256 := (i 1).isLt
  have h2 : (i 2).val < 512 := (i 2).isLt
  constructor
  · intro h
    have h0 : s.val ≤ (i 0).val ∧ (i 0).val < s.val + 1 := h 0
    omega
  · intro h0 a
    match a with
    | ⟨0, _⟩ => show s.val ≤ (i 0).val ∧ (i 0).val < s.val + 1; omega
    | ⟨1, _⟩ => show 0 ≤ (i 1).val ∧ (i 1).val < 0 + 256; omega
    | ⟨2, _⟩ => show 0 ≤ (i 2).val ∧ (i 2).val < 0 + 512; omega

theorem mem_oSet (q : Fin 8) (i : S256x512.Idx) : i ∈ oSet q ↔ (i 0).val / 32 = q.val := by
  unfold oSet
  rw [Rect.mem_set_unit]
  have h2 : (i 1).val < 512 := (i 1).isLt
  constructor
  · intro h
    have h1 : 32 * q.val ≤ (i 0).val ∧ (i 0).val < 32 * q.val + 32 := h 0
    omega
  · intro h1 a
    match a with
    | ⟨0, _⟩ => show 32 * q.val ≤ (i 0).val ∧ (i 0).val < 32 * q.val + 32; omega
    | ⟨1, _⟩ => show 0 ≤ (i 1).val ∧ (i 1).val < 0 + 512; omega

theorem pSet_disj (p p' : Fin 3 × Fin 8) (h : p ≠ p') : Disjoint (pSet p) (pSet p') := by
  rw [Finset.disjoint_left]
  intro i hi hi'
  rw [mem_pSet] at hi hi'
  exact h (Prod.ext (Fin.ext (hi.1.symm.trans hi'.1)) (Fin.ext (hi.2.symm.trans hi'.2)))
theorem pSet_cover : Finset.univ.biUnion pSet = Finset.univ := by
  refine Finset.eq_univ_of_forall fun i => Finset.mem_biUnion.mpr ?_
  have h1 : (i 1).val < 256 := (i 1).isLt
  exact ⟨(⟨(i 0).val, (i 0).isLt⟩, ⟨(i 1).val / 32, by omega⟩), Finset.mem_univ _, (mem_pSet _ i).mpr ⟨rfl, rfl⟩⟩
theorem pSet_slot (s : Fin 3) : Finset.univ.biUnion (fun q => pSet (s, q)) = slSet s := by
  ext i
  rw [Finset.mem_biUnion, mem_slSet]
  have h1 : (i 1).val < 256 := (i 1).isLt
  constructor
  · rintro ⟨q, _, hq⟩; exact ((mem_pSet _ i).mp hq).1
  · intro h; exact ⟨⟨(i 1).val / 32, by omega⟩, Finset.mem_univ _, (mem_pSet _ i).mpr ⟨h, rfl⟩⟩
theorem oSet_disj (q q' : Fin 8) (h : q ≠ q') : Disjoint (oSet q) (oSet q') := by
  rw [Finset.disjoint_left]
  intro i hi hi'
  rw [mem_oSet] at hi hi'
  exact h (Fin.ext (hi.symm.trans hi'))
theorem oSet_cover : Finset.univ.biUnion oSet = Finset.univ := by
  refine Finset.eq_univ_of_forall fun i => Finset.mem_biUnion.mpr ?_
  have h1 : (i 0).val < 256 := (i 0).isLt
  exact ⟨⟨(i 0).val / 32, by omega⟩, Finset.mem_univ _, (mem_oSet _ i).mpr rfl⟩

/-- The views' sets are these. -/
theorem slice_reshape_set (b : Ref sig .tc) (r : Rect b.ty.shape) (s' : Shape) (h) : (((View.whole b).slice r).reshape s' h).set = r.set := by
  rw [View.set_reshape, View.set_slice_whole]

theorem own_set (q : Fin 8) : (ownPieceM q).view.set = oSet q := View.set_slice_whole cc0_scratch0 _

/-- The piece's and the slot's sets, as sets of the family's buffer. -/
def pcSet (k : Kd) (c : Dev nD) (p : Fin 3 × Fin 8) : Finset (Idx ((bufM k).view.loc (c : Thread nD τ))) := match k with
  | .rs => pSet p | .ls => pSet p | .xr => pSet p | .xl => pSet p
def stSet (k : Kd) (c : Dev nD) (s : Fin 3) : Finset (Idx ((bufM k).view.loc (c : Thread nD τ))) := match k with
  | .rs => slSet s | .ls => slSet s | .xr => slSet s | .xl => slSet s
theorem pcSet_eq (k : Kd) (c : Dev nD) (s : Fin 3) (q : Fin 8) : (pieceM k s q).view.set = pcSet k c (s, q) := by
  cases k <;> exact slice_reshape_set _ _ _ _
theorem stSet_eq (k : Kd) (c : Dev nD) (s : Fin 3) : (slotM k s).view.set = stSet k c s := by
  cases k <;> exact slice_reshape_set _ _ _ _
theorem pcSet_disj (k : Kd) (c : Dev nD) (p p' : Fin 3 × Fin 8) (h : p ≠ p') : Disjoint (pcSet k c p) (pcSet k c p') := by
  cases k <;> exact pSet_disj p p' h
theorem pcSet_cover (k : Kd) (c : Dev nD) : Finset.univ.biUnion (pcSet k c) = Finset.univ := by
  cases k <;> exact pSet_cover
theorem pcSet_slot (k : Kd) (c : Dev nD) (s : Fin 3) : Finset.univ.biUnion (fun q => pcSet k c (s, q)) = stSet k c s := by
  cases k <;> exact pSet_slot s

/-! ## Cutting -/

/-- A family's buffer, held whole. -/
def bufPts (k : Kd) (c : Dev nD) (f : Buf (Elt F) ((bufM k).view.loc (c : Thread nD τ))) : sProp 𝕄 :=
  (bufM k).view.loc (c : Thread nD τ) ↦{fullShare} f

theorem pcPts_eq (k : Kd) (s : Fin 3) (q : Fin 8) (c : Dev nD) (sh : PosShare TreeShare) (f : Buf (Elt F) ((bufM k).view.loc (c : Thread nD τ))) :
    ((pieceM k s q).view.loc (c : Thread nD τ) ↦[(pieceM k s q).view.set]{sh} f : sProp 𝕄)
      = ((bufM k).view.loc (c : Thread nD τ) ↦[pcSet k c (s, q)]{sh} f) :=
  congrArg (fun S => ((bufM k).view.loc (c : Thread nD τ) ↦[S]{sh} f : sProp 𝕄)) (pcSet_eq k c s q)

theorem pcAny_eq (k : Kd) (s : Fin 3) (q : Fin 8) (c : Dev nD) :
    (pcAny k s q c : sProp 𝕄) = iprop(∃ f : Buf (Elt F) ((bufM k).view.loc (c : Thread nD τ)), (bufM k).view.loc (c : Thread nD τ) ↦[pcSet k c (s, q)]{fullShare} f) := by
  unfold pcAny
  exact congrArg _ (funext fun f => pcPts_eq k s q c fullShare f)

theorem pcAny_intro (k : Kd) (s : Fin 3) (q : Fin 8) (c : Dev nD) (f : Buf (Elt F) ((bufM k).view.loc (c : Thread nD τ))) :
    ((bufM k).view.loc (c : Thread nD τ) ↦[pcSet k c (s, q)]{fullShare} f : sProp 𝕄) ⊢ pcAny k s q c := by
  rw [pcAny_eq]
  iintro H
  iexists f
  iexact H

/-- A buffer cut into its pieces, each holding anything; -/
theorem pieces_any (k : Kd) (c : Dev nD) (f : Buf (Elt F) ((bufM k).view.loc (c : Thread nD τ))) :
    bufPts k c f ⊢ bigSepL sqL fun p => pcAny (F := F) k p.1 p.2 c := by
  rw [← bigSep_univ_eq_bigSepL sqL univ_sq nodup_sq]
  unfold bufPts
  refine (Entails.of_eq (Ring.pointsTo_blocks (pcSet k c) (pcSet_disj k c) (pcSet_cover k c) f)).trans (bigSep_mono fun p _ => pcAny_intro k p.1 p.2 c f)

include X in
/-- and put together again. -/
theorem pieces_join (k : Kd) (c : Dev nD) :
    (bigSepL sqL fun p => pcAny (F := F) k p.1 p.2 c) ⊢ iprop(∃ f, bufPts (F := F) k c f) := by
  rw [← bigSep_univ_eq_bigSepL sqL univ_sq nodup_sq]
  refine (bigSep_mono fun p _ => Entails.of_eq (pcAny_eq k p.1 p.2 c)).trans ?_
  exact Ring.pointsTo_blocks_join_exists (pcSet k c) (pcSet_disj k c) (pcSet_cover k c) (V X k c)

/-- A slot is its pieces. -/
theorem slot_pieces (k : Kd) (s : Fin 3) (c : Dev nD) (sh : PosShare TreeShare) :
    (slotPts X k s c sh : sProp 𝕄) = bigSepL qs fun q => pcPts X k s q c sh := by
  rw [← bigSep_univ_eq_bigSepL qs univ_qs nodup_qs]
  refine Eq.trans ?_ ((Ring.pointsTo_sub_blocks (fun q => pcSet k c (s, q)) (fun q q' h => pcSet_disj k c _ _ fun h' => h (congrArg Prod.snd h'))
    (stSet k c s) (pcSet_slot k c s) (V X k c)).trans (bigSep_congr fun q _ => (pcPts_eq k s q c sh (V X k c)).symm))
  exact congrArg (fun S => ((bufM k).view.loc (c : Thread nD τ) ↦[S]{sh} V X k c : sProp 𝕄)) (stSet_eq k c s)

/-- One's own half block is its pieces. -/
def ownAll (c : Dev nD) (sh : PosShare TreeShare) (f : Buf (Elt F) ((ownM).view.loc (c : Thread nD τ))) : sProp 𝕄 :=
  (ownM).view.loc (c : Thread nD τ) ↦{sh} f
theorem own_pieces (c : Dev nD) (sh : PosShare TreeShare) :
    (ownAll c sh (OWN X c) : sProp 𝕄) = bigSepL qs fun q => ownPts X q c sh := by
  rw [← bigSep_univ_eq_bigSepL qs univ_qs nodup_qs]
  refine (Ring.pointsTo_blocks (ℓ := (ownM).view.loc (c : Thread nD τ)) oSet oSet_disj oSet_cover (OWN X c)).trans (bigSep_congr fun q _ => ?_)
  exact congrArg (fun S => ((ownM).view.loc (c : Thread nD τ) ↦[S]{sh} OWN X c : sProp 𝕄)) (own_set q).symm

/-! ## The result -/

/-- Which of the eight half blocks of the result a store goes to. -/
def hBlk (o : Option (Kd × Fin 3)) (c : Dev nD) (b : Fin 8) : Bool := match o with
  | none => decide (b.val / 2 = yN c)
  | some (k, s) => vR k s c && decide (b.val = 2 * yN (org k s c) + (org k s c).val / 16)
theorem hBlk_one (o o' : Option (Kd × Fin 3)) (c : Dev nD) (b : Fin 8) (h : hBlk o c b = true) (h' : hBlk o' c b = true) : o = o' := by
  have H : ∀ (c : Dev nD) (b : Fin 8), ∀ o ∈ oL, ∀ o' ∈ oL, hBlk o c b = true → hBlk o' c b = true → o = o' := by decide +kernel
  have hm : ∀ o, o ∈ oL := fun o => List.mem_toFinset.mp (univ_o ▸ Finset.mem_univ o)
  exact H c b o (hm o) o' (hm o') h h'
theorem hBlk_all (c : Dev nD) (b : Fin 8) : ∃ o ∈ oL, hBlk o c b = true := by revert c b; decide +kernel

def outSet (c : Dev nD) (o : Option (Kd × Fin 3)) : Finset S2048x512.Idx :=
  if vT o c then (match o with
    | none => (Rect.unit (s := S2048x512) (k0_off2 c) S512x512.size (k0_off2_inb c)).set
    | some (k, s) => (Rect.unit (s := S2048x512) (offW k s c) S256x512.size (offW_inb k s c)).set) else ∅
def blkOf (i : S2048x512.Idx) : Fin 8 := ⟨(i 0).val / 256, by have h : (i 0).val < 2048 := (i 0).isLt; omega⟩

theorem mem_outSet (c : Dev nD) (o : Option (Kd × Fin 3)) (i : S2048x512.Idx) : i ∈ outSet c o ↔ hBlk o c (blkOf i) = true := by
  have h2 : (i 1).val < 512 := (i 1).isLt
  have h1 : (i 0).val < 2048 := (i 0).isLt
  rcases o with _ | ⟨k, s⟩
  · have hs : outSet c none = (Rect.unit (s := S2048x512) (k0_off2 c) S512x512.size (k0_off2_inb c)).set := if_pos rfl
    rw [hs, Rect.mem_set_unit]
    have ho : k0_off2 c = ![512 * (c.val / 4 % 4), 0] := k0_off2_eq c
    have e0 : k0_off2 c 0 = 512 * (c.val / 4 % 4) := by rw [ho]; rfl
    have e1 : k0_off2 c 1 = 0 := by rw [ho]; rfl
    have hb : hBlk none c (blkOf i) = true ↔ (i 0).val / 256 / 2 = c.val / 4 % 4 := decide_eq_true_iff
    rw [hb]
    constructor
    · intro h
      have h0 : k0_off2 c 0 ≤ (i 0).val ∧ (i 0).val < k0_off2 c 0 + 512 := h 0
      omega
    · intro h a
      match a with
      | ⟨0, _⟩ => show k0_off2 c 0 ≤ (i 0).val ∧ (i 0).val < k0_off2 c 0 + 512; omega
      | ⟨1, _⟩ => show k0_off2 c 1 ≤ (i 1).val ∧ (i 1).val < k0_off2 c 1 + 512; omega
  · by_cases hv : vR k s c = true
    · have hs : outSet c (some (k, s)) = (Rect.unit (s := S2048x512) (offW k s c) S256x512.size (offW_inb k s c)).set := if_pos hv
      rw [hs, Rect.mem_set_unit]
      obtain ⟨e0, e1⟩ := offW_eq k s c hv
      have hb : hBlk (some (k, s)) c (blkOf i) = true ↔ (i 0).val / 256 = 2 * yN (org k s c) + (org k s c).val / 16 := by
        show (vR k s c && decide _) = true ↔ _
        rw [hv, Bool.true_and]; exact decide_eq_true_iff
      rw [hb]
      generalize yN (org k s c) = y at *
      constructor
      · intro h
        have h0 : offW k s c 0 ≤ (i 0).val ∧ (i 0).val < offW k s c 0 + 256 := h 0
        omega
      · intro h a
        match a with
        | ⟨0, _⟩ => show offW k s c 0 ≤ (i 0).val ∧ (i 0).val < offW k s c 0 + 256; omega
        | ⟨1, _⟩ => show offW k s c 1 ≤ (i 1).val ∧ (i 1).val < offW k s c 1 + 512; omega
    · have hs : outSet c (some (k, s)) = ∅ := if_neg hv
      rw [hs]
      have hb : hBlk (some (k, s)) c (blkOf i) = false := by
        show (vR k s c && decide _) = false
        rw [Bool.eq_false_of_not_eq_true hv]; rfl
      rw [hb]
      exact ⟨fun h => absurd h (Finset.notMem_empty i), fun h => absurd h Bool.false_ne_true⟩

theorem outSet_disj (c : Dev nD) (o o' : Option (Kd × Fin 3)) (h : o ≠ o') : Disjoint (outSet c o) (outSet c o') := by
  rw [Finset.disjoint_left]
  intro i hi hi'
  rw [mem_outSet] at hi hi'
  exact h (hBlk_one o o' c _ hi hi')
theorem outSet_cover (c : Dev nD) : Finset.univ.biUnion (outSet c) = Finset.univ := by
  refine Finset.eq_univ_of_forall fun i => Finset.mem_biUnion.mpr ?_
  obtain ⟨o, _, ho⟩ := hBlk_all c (blkOf i)
  exact ⟨o, Finset.mem_univ _, (mem_outSet c o i).mpr ho⟩

/-- The result held whole. -/
def outAll (c : Dev nD) (f : Buf (Elt F) ((outM).view.loc (c : Thread nD τ))) : sProp 𝕄 := (outM).view.loc (c : Thread nD τ) ↦{fullShare} f

theorem out_cut (c : Dev nD) (f : Buf (Elt F) ((outM).view.loc (c : Thread nD τ))) :
    (outAll c f : sProp 𝕄) = bigSepL oL fun o => (outM).view.loc (c : Thread nD τ) ↦[outSet c o]{fullShare} f := by
  rw [← bigSep_univ_eq_bigSepL oL univ_o nodup_o]
  exact Ring.pointsTo_blocks (ℓ := (outM).view.loc (c : Thread nD τ)) (outSet c) (outSet_disj c) (outSet_cover c) f

theorem outOwn_set (c : Dev nD) : (outOwn c).view.set = outSet c none := (View.set_slice_whole cc0_stg1_0 _).trans (if_pos rfl).symm
theorem outHalf_set (k : Kd) (s : Fin 3) (c : Dev nD) (h : vR k s c = true) : (outHalf k s c).view.set = outSet c (some (k, s)) :=
  (View.set_slice_whole cc0_stg1_0 _).trans (if_pos h).symm

/-- Each store's rows, holding anything, out of the result; -/
theorem outAny_of (c : Dev nD) (o : Option (Kd × Fin 3)) (f : Buf (Elt F) ((outM).view.loc (c : Thread nD τ))) :
    ((outM).view.loc (c : Thread nD τ) ↦[outSet c o]{fullShare} f : sProp 𝕄) ⊢ onlyIf (vT o c) (outAny o c) := by
  by_cases h : vT o c = true
  · rw [onlyIf_true h]
    rcases o with _ | ⟨k, s⟩
    · rw [← outOwn_set]; unfold outAny; iintro H; iexists f; iexact H
    · rw [← outHalf_set k s c h]; unfold outAny; iintro H; iexists f; iexact H
  · rw [onlyIf_false h]; iintro -; iempintro
/-- and its rows of the result. -/
theorem outPts_to (c : Dev nD) (o : Option (Kd × Fin 3)) :
    onlyIf (vT o c) (outPts X o c) ⊢ ((outM).view.loc (c : Thread nD τ) ↦[outSet c o]{fullShare} OV X c : sProp 𝕄) := by
  by_cases h : vT o c = true
  · rw [onlyIf_true h]
    rcases o with _ | ⟨k, s⟩
    · rw [← outOwn_set]; unfold outPts; exact Entails.rfl
    · rw [← outHalf_set k s c h]; unfold outPts; exact Entails.rfl
  · rw [onlyIf_false h]
    have hs : outSet c o = ∅ := if_neg h
    rw [hs, pointsTo_empty]

end Cert.KernelIdeal.AG
-- ==== Proof.Interp.lean ====
module

public import proofs.«01_k».proof.Proof.Machine
public import proofs.«01_k».proof.Proof.Parts

/-! What each thing that the bookkeeping counts is, as an assertion; the run of a list of operations follows from the
step of each. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → (cc0_stg0_0 : Ref sig .tc).ty.Contents (Elt F))

/-- Separating conjunction as equations. -/
theorem sepA (P Q R : sProp 𝕄) : iprop((P ∗ Q) ∗ R) = iprop(P ∗ Q ∗ R) := equiv_iff.mp ⟨BI.sep_assoc, BI.sep_assoc'⟩
theorem sepE (P : sProp 𝕄) : iprop(P ∗ emp) = P := equiv_iff.mp BI.sep_emp
theorem empS (P : sProp 𝕄) : iprop(emp ∗ P) = P := equiv_iff.mp BI.emp_sep

theorem sepL1 (P Q R : sProp 𝕄) : iprop(P ∗ Q ∗ R) ⊢ iprop(Q ∗ P ∗ R) := by
  iintro ⟨H1, H2, H3⟩
  isplitl [H2]; · iexact H2
  isplitl [H1]; · iexact H1
  iexact H3
theorem sepL (P Q R : sProp 𝕄) : iprop(P ∗ Q ∗ R) = iprop(Q ∗ P ∗ R) := equiv_iff.mp ⟨sepL1 P Q R, sepL1 Q P R⟩

/-- Whether what a copy reads is held at all. -/
def hSrc (k : Kd) (s : Fin 3) (c : Dev nD) : Bool := match k, s with
  | .rs, 0 => true | .rs, 1 => vR .rs 0 c | .rs, 2 => vR .rs 1 c
  | .ls, 0 => true | .ls, 1 => vR .ls 0 c | .ls, 2 => vR .ls 1 c
  | .xr, s => vR .rs s c | .xl, s => vR .ls s c
theorem hSrc_of (k : Kd) (s : Fin 3) (c : Dev nD) (h : vS k s c = true) : hSrc k s c = true := by
  cases k <;> revert s c <;> decide +kernel

/-- The round a place is at: the next one after a wait that happened. -/
def rnd (r b : Bool) : ℕ := if r && b then 1 else 0

/-- What each thing is. -/
def I (c : Dev nD) : Tok → sProp 𝕄
  | .tB d => dutyTok ER (bCell (bTgt d c)) 0 d
  | .gv d => barPay d (bTgt d c)
  | .aB r => atPos ER (bCell c) (rnd r true) ∅ 0
  | .cB => cred (tallyAt (bCell c) () 3)
  | .tC k s q => iprop(dutyTok ER (sCell k s q c) 0 0 ∗ dutyTok ER (rCell k s q (tgt k c)) 0 0)
  | .aS r k s q => atPos ER (sCell k s q c) (rnd r (vS k s c)) ∅ 0
  | .aR r k s q => atPos ER (rCell k s q c) (rnd r (vR k s c)) ∅ 0
  | .cR k s q => onlyIf (vR k s c) (cred (tallyAt (rCell k s q c) () NP))
  | .cS k s q => if vS k s c then cred (tallyAt (sCell k s q c) () NP) else onlyIf (hSrc k s c) (srcPts X k s q c)
  | .dl k s q => land k s q c
  | .src k s q => onlyIf (hSrc k s c) (srcPts X k s q c)
  | .lo l q => onlyIf (vR (kY l) 2 c) (pcPts X (kY l) 2 q c shF)
  | .stp k s q => onlyIf (vR k s c) (pcPts X k s q c (shT k))
  | .tT o => dutyTok ER (tCell o c) 0 0
  | .aT r o => atPos ER (tCell o c) (rnd r (vT o c)) ∅ 0
  | .cT o => onlyIf (vT o c) (cred (tallyAt (tCell o c) () (NT o)))
  | .out o => onlyIf (vT o c) (outAny o c)
  | .dn o => onlyIf (vT o c) (iprop(outPts X o c ∗ stSrc X o c))
  | .ownB => iprop(∃ f : Buf (Elt F) ((ownM).view.loc (c : Thread nD τ)), ownAll c fullShare f)
  | .inp => inPts X c

/-- All of a list. -/
def TT (c : Dev nD) (l : List Tok) : sProp 𝕄 := bigSepL l (I X c)
def TN (c : Dev nD) (l : List ℕ) : sProp 𝕄 := bigSepL l fun n => I X c (decode n)

theorem TT_nil (c : Dev nD) : TT X c [] = iprop(emp) := rfl
theorem TT_cons (c : Dev nD) (t : Tok) (l : List Tok) : TT X c (t :: l) = iprop(I X c t ∗ TT X c l) := bigSepL_cons' ..
theorem TT_append (c : Dev nD) (l l' : List Tok) : TT X c (l ++ l') = iprop(TT X c l ∗ TT X c l') := bigSepL_append ..
theorem TT_map {J : Type} (c : Dev nD) (l : List J) (f : J → Tok) : TT X c (l.map f) = bigSepL l fun j => I X c (f j) := bigSepL_map ..
theorem TN_codes (c : Dev nD) (l : List Tok) : TN X c (codes l) = TT X c l := by
  unfold TN TT codes
  rw [bigSepL_map]
  exact congrArg (bigSepL l) (funext fun t => congrArg (I X c) (decode_code t))

theorem TN_take (c : Dev nD) {n : ℕ} {l l' : List ℕ} (h : take n l = some l') : TN X c l = iprop(I X c (decode n) ∗ TN X c l') := by
  induction l generalizing l' with
  | nil => exact absurd h (by simp [take])
  | cons a l ih =>
    unfold take at h
    cases hb : Nat.beq a n
    · rw [hb] at h
      cases ht : take n l with
      | none => rw [ht] at h; exact absurd h (by simp)
      | some l₁ =>
        rw [ht] at h
        have h' : a :: l₁ = l' := by simpa using h
        subst h'
        unfold TN at *
        rw [bigSepL_cons', ih ht, bigSepL_cons']
        exact sepL _ _ _
    · rw [hb] at h
      have h' : l = l' := by simpa using h
      subst h'
      have ha : a = n := Nat.eq_of_beq_eq_true hb
      subst ha
      exact bigSepL_cons' ..

theorem TN_takeAll (c : Dev nD) {ns l l' : List ℕ} (h : takeAll ns l = some l') : TN X c l = iprop(TN X c ns ∗ TN X c l') := by
  induction ns generalizing l with
  | nil =>
    have h' : l = l' := by simpa [takeAll] using h
    subst h'
    exact (empS _).symm
  | cons n ns ih =>
    unfold takeAll at h
    cases ht : take n l with
    | none => rw [ht] at h; exact absurd h (by simp)
    | some l₁ =>
      rw [ht] at h
      rw [TN_take X c ht, ih h]
      have hc : TN X c (n :: ns) = iprop(I X c (decode n) ∗ TN X c ns) := bigSepL_cons' ..
      rw [hc]
      exact (sepA _ _ _).symm

theorem strip_eq {ps ow ow' : List Owe} (h : strip ps ow = some ow') : ow = ps ++ ow' := by
  induction ps generalizing ow with
  | nil => simpa [strip] using h
  | cons p ps ih =>
    cases ow with
    | nil => exact absurd h (by simp [strip])
    | cons o ow =>
      unfold strip at h
      split at h
      · next he => subst he; rw [ih h]; rfl
      · exact absurd h (by simp)

/-- What the step of an operation is: from what it takes to what it gives, paying what it pays. -/
def Step (K : Dev nD × Fin 206 → ℕ) (c : Dev nD) (o : Op) : Prop :=
  ∀ (ow : List Owe), above (lvl o) ow = true → ∀ (Kp : PF F PUnit) (Q : PUnit → sProp 𝕄),
    iprop(ctx X K ∗ TT X c (pre o) ∗ OW (pops o ++ ow) c) ⊢ iprop(((TT X c (post o) ∗ OW ow c) -∗ WP c Kp Q) -∗ WP c (run o c Kp) Q)

/-- The whole run, from the steps. -/
theorem runs_exec (K : Dev nD × Fin 206 → ℕ) (c : Dev nD) (hstep : ∀ o, Step X K c o) (os : List Op) :
    ∀ (st : List ℕ) (ow : List Owe) (st' : List ℕ) (ow' : List Owe), exec os st ow = some (st', ow') →
    ∀ (Kp : PF F PUnit) (Q : PUnit → sProp 𝕄),
    iprop(ctx X K ∗ TN X c st ∗ OW ow c) ⊢ iprop(((TN X c st' ∗ OW ow' c) -∗ WP c Kp Q) -∗ WP c (runs os c Kp) Q) := by
  induction os with
  | nil =>
    intro st ow st' ow' h Kp Q
    have h' : st = st' ∧ ow = ow' := by simpa [exec] using h
    obtain ⟨rfl, rfl⟩ := h'
    iintro ⟨-, Ht, Ho⟩ Hk
    iapply Hk
    isplitl [Ht]; · iexact Ht
    iexact Ho
  | cons o os ih =>
    intro st ow st' ow' h Kp Q
    unfold exec at h
    cases he : exec1 o st ow with
    | none => rw [he] at h; exact absurd h (by simp)
    | some p =>
      obtain ⟨st₁, ow₁⟩ := p
      rw [he] at h
      unfold exec1 at he
      cases ht : takeAll (codes (pre o)) st with
      | none => rw [ht] at he; exact absurd he (by simp)
      | some st₂ =>
        rw [ht] at he
        cases hs : strip (pops o) ow with
        | none => simp only [hs] at he; exact absurd he (by simp)
        | some ow₂ =>
          simp only [hs] at he
          cases ha : above (lvl o) ow₂ with
          | false => rw [ha] at he; exact absurd he (by simp)
          | true =>
            rw [ha] at he
            have he' : codes (post o) ++ st₂ = st₁ ∧ ow₂ = ow₁ := by simpa using he
            obtain ⟨rfl, rfl⟩ := he'
            rw [strip_eq hs, TN_takeAll X c ht, TN_codes]
            have h2 := ih _ _ _ _ h Kp Q
            have ht' : TN X c (codes (post o) ++ st₂) = iprop(TT X c (post o) ∗ TN X c st₂) := by
              rw [← TN_codes]; exact bigSepL_append ..
            rw [ht'] at h2
            show _ ⊢ iprop(_ -∗ WP c (run o c (runs os c Kp)) Q)
            iintro ⟨#Hc, ⟨Hp, Hr⟩, Ho⟩ Hk
            iapply (hstep o ow₂ ha (runs os c Kp) Q) $$ [Hp Ho]
            · isplitr; · iexact Hc
              isplitl [Hp]; · iexact Hp
              iexact Ho
            iintro ⟨Hp, Ho⟩
            iapply h2 $$ [Hp Hr Ho]
            · isplitr; · iexact Hc
              isplitl [Hp Hr]
              · isplitl [Hp]; · iexact Hp
                iexact Hr
              iexact Ho
            iexact Hk

end Cert.KernelIdeal.AG
-- ==== Proof.StepsA.lean ====
module

public import proofs.«01_k».proof.Proof.Interp

/-! The step of each operation that signals, copies to another device or waits for such a copy. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → (cc0_stg0_0 : Ref sig .tc).ty.Contents (Elt F))

theorem OW_skip (o : Owe) (ow : List Owe) (c : Dev nD) (h : ¬ oweIf o c = true) : (OW (o :: ow) c : sProp 𝕄) = OW ow c := by
  have h' : oweSum (o :: ow) c = oweSum ow c := by
    show oweSum ow c + oweT o c = _
    rw [show oweT o c = 0 from if_neg h, add_zero]
  unfold OW
  rw [h']

theorem rnd_false (b : Bool) : rnd false b = 0 := rfl
theorem rnd_true {b : Bool} (h : b = true) : rnd true b = 1 := by subst h; rfl
theorem rnd_no {b : Bool} (h : ¬ b = true) (r : Bool) : rnd r b = 0 := by
  rw [Bool.eq_false_of_not_eq_true h]; cases r <;> rfl

theorem TT_two (c : Dev nD) (t t' : Tok) : TT X c [t, t'] = iprop(I X c t ∗ I X c t') := rfl
theorem TT_one (c : Dev nD) (t : Tok) : TT X c [t] = I X c t := rfl

/-! ## The barrier's signals -/

theorem vB0 (c : Dev nD) : vB 0 (bTgt 0 c) = true ↔ yN c < 3 := by revert c; decide +kernel
theorem vB1 (c : Dev nD) : vB 1 (bTgt 1 c) = true ↔ 0 < yN c := by revert c; decide +kernel
theorem amt_word (c : Dev nD) : (k0_amt1 c).toInt = (amountOf .bar (bTgt 2 c) 2 : ℕ) := by
  have h : ∀ c : Dev nD, (k0_amt1 c).toInt = (amtP (peer c) : ℕ) := by decide +kernel
  exact h c

theorem step_sig (K : Dev nD × Fin 206 → ℕ) (c : Dev nD) (d : Fin 3) (n : Dev nD) (hn : n = bTgt d c) (z : ℤ) (hv : vB d (bTgt d c) = true)
    (hz : z = (amountOf .bar (bTgt d c) d : ℕ)) (ow : List Owe) (Kp : PF F PUnit) (Q : PUnit → sProp 𝕄) :
    iprop(ctx X K ∗ TT X c [.tB d, .gv d] ∗ OW (.b d :: ow) c)
      ⊢ iprop(((TT X c [] ∗ OW ow c) -∗ WP c Kp Q) -∗ WP c (.op (.semSignal (n : Thread nD τ) barSem z) fun _ => Kp) Q) := by
  rw [TT_two, TT_nil]
  unfold I
  iintro ⟨#Hc, ⟨Ht, Hg⟩, Ho⟩ Hk
  iapply (wp_sig X K c d n hn hv z hz ow (k := fun _ => Kp) (Q := Q)) $$ [Ht Hg Ho]
  · isplitr; · iexact Hc
    isplitl [Ht]; · iexact Ht
    isplitl [Hg]; · iexact Hg
    iexact Ho
  iintro Ho
  iapply Hk
  isplitr; · iempintro
  iexact Ho

theorem step_nosig (K : Dev nD × Fin 206 → ℕ) (c : Dev nD) (d : Fin 3) (hv : ¬ vB d (bTgt d c) = true) (ow : List Owe) (Kp : PF F PUnit) (Q : PUnit → sProp 𝕄) :
    iprop(ctx X K ∗ TT X c [.tB d, .gv d] ∗ OW (.b d :: ow) c) ⊢ iprop(((TT X c [] ∗ OW ow c) -∗ WP c Kp Q) -∗ WP c Kp Q) := by
  rw [OW_skip (.b d) ow c (show ¬ oweIf (.b d) c = true from hv), TT_nil]
  iintro ⟨-, -, Ho⟩ Hk
  iapply Hk
  isplitr; · iempintro
  iexact Ho

theorem step_sigR (K : Dev nD × Fin 206 → ℕ) (c : Dev nD) : Step X K c .sigR := by
  intro ow _ Kp Q
  by_cases h : k0_cond1 c = 1#1
  · have hr : run .sigR c Kp = .op (.semSignal ((⟨k0_dev1 c, k0_dev1_lt c h⟩ : Dev nD) : Thread nD τ) barSem 1) fun _ => Kp := dif_pos h
    rw [hr]
    exact step_sig X K c 0 _ (dev1_eq c h) 1 ((vB0 c).mpr ((cond1_iff c).mp h)) rfl ow Kp Q
  · have hr : run .sigR c Kp = Kp := dif_neg h
    rw [hr]
    exact step_nosig X K c 0 (fun hv => h ((cond1_iff c).mpr ((vB0 c).mp hv))) ow Kp Q

theorem step_sigL (K : Dev nD × Fin 206 → ℕ) (c : Dev nD) : Step X K c .sigL := by
  intro ow _ Kp Q
  by_cases h : k0_cond2 c = 1#1
  · have hr : run .sigL c Kp = .op (.semSignal ((⟨k0_dev2 c, k0_dev2_lt c h⟩ : Dev nD) : Thread nD τ) barSem 1) fun _ => Kp := dif_pos h
    rw [hr]
    exact step_sig X K c 1 _ (dev2_eq c h) 1 ((vB1 c).mpr ((cond2_iff c).mp h)) rfl ow Kp Q
  · have hr : run .sigL c Kp = Kp := dif_neg h
    rw [hr]
    exact step_nosig X K c 1 (fun hv => h ((cond2_iff c).mpr ((vB1 c).mp hv))) ow Kp Q

theorem step_sigP (K : Dev nD × Fin 206 → ℕ) (c : Dev nD) : Step X K c .sigP := by
  intro ow _ Kp Q
  have hr : run .sigP c Kp = .op (.semSignal ((⟨k0_dev3 c, k0_dev3_lt c⟩ : Dev nD) : Thread nD τ) barSem (k0_amt1 c).toInt) fun _ => Kp := rfl
  rw [hr]
  exact step_sig X K c 2 _ (dev3_eq c) _ rfl (amt_word c) ow Kp Q

/-! ## Copies -/

theorem NP_piece (k : Kd) (s : Fin 3) (q : Fin 8) : (pieceM k s q).view.dmaCredit = NP := by cases k <;> rfl
theorem NP_src (k : Kd) (s : Fin 3) (q : Fin 8) : (srcM k s q).view.dmaCredit = NP := by
  cases k
  · match s with | 0 => rfl | 1 => rfl | 2 => rfl
  · match s with | 0 => rfl | 1 => rfl | 2 => rfl
  · rfl
  · rfl

theorem waitS_spec (c : Dev nD) (k : Kd) (s : Fin 3) (q : Fin 8) (G : PUnit → sProp 𝕄) :
    wpE (defs₀ (F := F)) 𝒱₀ (c : Thread nD τ) none Set.univ (waitSE k s q) G = waitSpec (c : Thread nD τ) Set.univ (.dma (sS k s q)) NP G := by
  rw [← NP_src k s q]; rfl
theorem waitR_spec (c : Dev nD) (k : Kd) (s : Fin 3) (q : Fin 8) (G : PUnit → sProp 𝕄) :
    wpE (defs₀ (F := F)) 𝒱₀ (c : Thread nD τ) none Set.univ (waitRE k s q) G = waitSpec (c : Thread nD τ) Set.univ (.dma (sR k s q)) NP G := by
  rw [← NP_piece k s q]; rfl

theorem step_send (K : Dev nD × Fin 206 → ℕ) (c : Dev nD) (k : Kd) (s : Fin 3) (q : Fin 8) : Step X K c (.send k s q) := by
  intro ow _ Kp Q
  have hpre : TT X c (pre (.send k s q)) = iprop(I X c (.src k s q) ∗ I X c (.dl k s q) ∗ I X c (.tC k s q)) := rfl
  have hpost : TT X c (post (.send k s q)) = I X c (.cS k s q) := rfl
  have hpop : pops (.send k s q) ++ ow = .r k s q :: ow := rfl
  rw [hpre, hpost, hpop]
  by_cases h : vS k s c = true
  · have hr : run (.send k s q) c Kp = .op (sendE k s q c) fun _ => Kp := dif_pos ((cS_iff k s c).mpr h)
    have h1 : I X c (.src k s q) = srcPts X k s q c := onlyIf_true (hSrc_of k s c h) _
    have h2 : I X c (.dl k s q) = pcAny k s q (tgt k c) := onlyIf_true h _
    have h3 : I X c (.cS k s q) = cred (tallyAt (sCell k s q c) () NP) := if_pos h
    have h4 : I X c (.tC k s q) = iprop(dutyTok ER (sCell k s q c) 0 0 ∗ dutyTok ER (rCell k s q (tgt k c)) 0 0) := rfl
    rw [hr, h1, h2, h3, h4]
    unfold sendE
    iintro ⟨#Hc, ⟨Hs, Hd, Ht1, Ht2⟩, Ho⟩ Hk
    iapply (wp_sendOne X K c k s q (devW k c) (devW_eq k s c h) h ow (NP_piece k s q) (kt := fun _ => Kp) (Q := Q)) $$ [Hs Hd Ht1 Ht2 Ho]
    · isplitr; · iexact Hc
      isplitl [Hs]; · iexact Hs
      isplitl [Hd]; · iexact Hd
      isplitl [Ht1]; · iexact Ht1
      isplitl [Ht2]; · iexact Ht2
      iexact Ho
    iexact Hk
  · have hr : run (.send k s q) c Kp = Kp := dif_neg fun hh => h ((cS_iff k s c).mp hh)
    have h3 : I X c (.cS k s q) = I X c (.src k s q) := if_neg h
    rw [hr, h3, OW_skip _ _ _ (show ¬ oweIf (.r k s q) c = true from h)]
    iintro ⟨-, ⟨Hs, -, -⟩, Ho⟩ Hk
    iapply Hk
    isplitl [Hs]; · iexact Hs
    iexact Ho

theorem step_waitS (K : Dev nD × Fin 206 → ℕ) (c : Dev nD) (k : Kd) (s : Fin 3) (q : Fin 8) : Step X K c (.waitS k s q) := by
  intro ow ha Kp Q
  have hpre : TT X c (pre (.waitS k s q)) = iprop(I X c (.aS false k s q) ∗ I X c (.cS k s q)) := rfl
  have hpost : TT X c (post (.waitS k s q)) = iprop(I X c (.aS true k s q) ∗ I X c (.src k s q)) := rfl
  have hpop : pops (.waitS k s q) ++ ow = ow := rfl
  have h0 (r : Bool) : I X c (.aS r k s q) = atPos ER (sCell k s q c) (rnd r (vS k s c)) ∅ 0 := rfl
  rw [hpre, hpost, hpop, h0, h0]
  by_cases h : vS k s c = true
  · have hr : run (.waitS k s q) c Kp = .op (waitSE k s q) fun _ => Kp := dif_pos ((cS_iff k s c).mpr h)
    have h1 : I X c (.src k s q) = srcPts X k s q c := onlyIf_true (hSrc_of k s c h) _
    have h3 : I X c (.cS k s q) = cred (tallyAt (sCell k s q c) () NP) := if_pos h
    have hpay : payOf X (.snd k s q) c 0 = srcPts X k s q c := rfl
    rw [hr, h1, h3, rnd_false, rnd_true h]
    iintro ⟨#Hc, ⟨Ha, Hcr⟩, Ho⟩ Hk
    iapply (wp_waitOne X K c (w := waitSE k s q) (ck_snd k s q) (N := NP) (fun hh => by cases hh) (fun hh => by cases hh) h rfl
      (waitS_spec c k s q)
      0 (Nat.le_refl 0) ow ha (k := fun _ => Kp) (Q := Q)) $$ [Ha Hcr Ho]
    · isplitr; · iexact Hc
      isplitl [Hcr]; · iexact Hcr
      isplitl [Ha]; · iexact Ha
      iexact Ho
    iintro ⟨Ha, Hp, Ho⟩
    iapply Hk
    isplitl [Ha Hp]
    · isplitl [Ha]; · iexact Ha
      iapply (Entails.of_eq hpay); iexact Hp
    iexact Ho
  · have hr : run (.waitS k s q) c Kp = Kp := dif_neg fun hh => h ((cS_iff k s c).mp hh)
    have h3 : I X c (.cS k s q) = I X c (.src k s q) := if_neg h
    rw [hr, h3, rnd_false, rnd_no h]
    iintro ⟨-, Hs, Ho⟩ Hk
    iapply Hk
    isplitl [Hs]; · iexact Hs
    iexact Ho

/-- The wait for a copy's arrival. -/
theorem wp_recv (K : Dev nD × Fin 206 → ℕ) (c : Dev nD) (k : Kd) (s : Fin 3) (q : Fin 8) (h : vR k s c = true) (n : ℕ) (hn : clv (.rcv k s q) ≤ n)
    (ow : List Owe) (ha : above n ow = true) (Kp : PF F PUnit) (Q : PUnit → sProp 𝕄) :
    iprop(ctx X K ∗ I X c (.cR k s q) ∗ I X c (.aR false k s q) ∗ OW ow c)
      ⊢ iprop(((I X c (.aR true k s q) ∗ pcPts X k s q c fullShare ∗ OW ow c) -∗ WP c Kp Q) -∗ WP c (.op (waitRE k s q) fun _ => Kp) Q) := by
  have h0 (r : Bool) : I X c (.aR r k s q) = atPos ER (rCell k s q c) (rnd r (vR k s c)) ∅ 0 := rfl
  have h1 : I X c (.cR k s q) = cred (tallyAt (rCell k s q c) () NP) := onlyIf_true h _
  rw [h0, h0, h1, rnd_false, rnd_true h]
  exact wp_waitOne X K c (w := waitRE k s q) (ck_rcv k s q) (N := NP) (fun hh => by cases hh) (fun hh => by cases hh) h rfl
    (waitR_spec c k s q)
    n hn ow ha (k := fun _ => Kp) (Q := Q)

/-- A held piece in two halves. -/
theorem pc_half (k : Kd) (s : Fin 3) (q : Fin 8) (c : Dev nD) (sh : PosShare TreeShare) :
    (pcPts X k s q c sh : sProp 𝕄) = iprop(pcPts X k s q c sh.left ∗ pcPts X k s q c sh.right) := by
  have h := pointsTo_share (nD := nD) (τ := τ) (sig := sig) (Ix := Unit) (Val := Elt F) (Name := ℕ) (U := UU) (Lvl := ℕ)
    (ℓ := (pieceM k s q).view.loc (c : Thread nD τ)) (I := (pieceM k s q).view.set) (f := V X k c) (PosShare.mem_left_op_right sh)
  exact equiv_iff.mp ⟨h.1, h.2⟩

/-- A received piece in its three shares. -/
theorem pc_split (k : Kd) (s : Fin 3) (q : Fin 8) (c : Dev nD) :
    (pcPts X k s q c fullShare : sProp 𝕄) = iprop(pcPts X k s q c shF ∗ pcPts X k s q c shX ∗ pcPts X k s q c fullShare.right.right) := by
  rw [pc_half X k s q c fullShare, pc_half X k s q c fullShare.right]; rfl

theorem nxt_eq (c : Dev nD) (l : Bool) (s : Fin 3) (q : Fin 8) : I X c (nxtTok l s q) = onlyIf (vR (kY l) s c) (pcPts X (kY l) s q c shF) := by
  cases l
  · match s with | 0 => rfl | 1 => rfl | 2 => rfl
  · match s with | 0 => rfl | 1 => rfl | 2 => rfl
theorem srcX_eq (c : Dev nD) (l : Bool) (s : Fin 3) (q : Fin 8) : I X c (.src (kX l) s q) = onlyIf (vR (kY l) s c) (pcPts X (kY l) s q c shX) := by
  cases l <;> rfl
theorem stpY_eq (c : Dev nD) (l : Bool) (s : Fin 3) (q : Fin 8) :
    I X c (.stp (kY l) s q) = onlyIf (vR (kY l) s c) (pcPts X (kY l) s q c fullShare.right.right) := by cases l <;> rfl

theorem step_recvY (K : Dev nD × Fin 206 → ℕ) (c : Dev nD) (l : Bool) (s : Fin 3) (q : Fin 8) : Step X K c (.recvY l s q) := by
  intro ow ha Kp Q
  have hpre : TT X c (pre (.recvY l s q)) = iprop(I X c (.aR false (kY l) s q) ∗ I X c (.cR (kY l) s q)) := rfl
  have hpost : TT X c (post (.recvY l s q)) = iprop(I X c (.aR true (kY l) s q) ∗ I X c (nxtTok l s q) ∗ I X c (.src (kX l) s q) ∗ I X c (.stp (kY l) s q)) := rfl
  have hpop : pops (.recvY l s q) ++ ow = ow := rfl
  rw [hpre, hpost, hpop, nxt_eq, srcX_eq, stpY_eq]
  by_cases h : vR (kY l) s c = true
  · have hr : run (.recvY l s q) c Kp = .op (waitRE (kY l) s q) fun _ => Kp := dif_pos ((cR_iff _ s c).mpr h)
    rw [hr, onlyIf_true h, onlyIf_true h, onlyIf_true h]
    iintro ⟨#Hc, ⟨Ha, Hcr⟩, Ho⟩ Hk
    iapply (wp_recv X K c (kY l) s q h (2 + s.val) (by cases l <;> exact Nat.le_refl _) ow ha Kp Q) $$ [Ha Hcr Ho]
    · isplitr; · iexact Hc
      isplitl [Hcr]; · iexact Hcr
      isplitl [Ha]; · iexact Ha
      iexact Ho
    iintro ⟨Ha, Hp, Ho⟩
    iapply Hk
    isplitl [Ha Hp]
    · isplitl [Ha]; · iexact Ha
      iapply (Entails.of_eq (pc_split X (kY l) s q c)); iexact Hp
    iexact Ho
  · have hr : run (.recvY l s q) c Kp = Kp := dif_neg fun hh => h ((cR_iff _ s c).mp hh)
    have h0 (r : Bool) : I X c (.aR r (kY l) s q) = atPos ER (rCell (kY l) s q c) (rnd r (vR (kY l) s c)) ∅ 0 := rfl
    rw [hr, onlyIf_false h, onlyIf_false h, onlyIf_false h, h0, h0, rnd_no h, rnd_no h]
    iintro ⟨-, ⟨Ha, -⟩, Ho⟩ Hk
    iapply Hk
    isplitl [Ha]
    · isplitl [Ha]; · iexact Ha
      isplitr; · iempintro
      isplitr <;> iempintro
    iexact Ho

/-! ## The barrier's wait -/

theorem expect_bar (c : Dev nD) : (Rd X).expect (bCell c) 0 = 3 := by
  unfold Schedule.expect Schedule.amountOf
  rw [duties_of X ck_bar c]
  have h : ∀ c : Dev nD, ∑ d ∈ (Finset.univ.filter fun d => vB d c = true), (if d = (2 : Fin 3) then amtP c else 1) = 3 := by decide +kernel
  refine Eq.trans (Finset.sum_congr rfl fun d _ => ?_) (h c)
  exact amount_of X ck_bar c d

theorem emp_bigSepL {J : Type} (l : List J) (Φ : J → sProp 𝕄) (h : ∀ j ∈ l, Φ j = iprop(emp)) : bigSepL l Φ = iprop(emp) := by
  induction l with
  | nil => rfl
  | cons a l ih => rw [bigSepL_cons', h a List.mem_cons_self, ih fun j hj => h j (List.mem_cons_of_mem _ hj), empS]

theorem lands_none (k : Kd) (c : Dev nD) (h : ∀ s, ¬ vS k s c = true) : (lands k c : sProp 𝕄) = iprop(emp) := by
  unfold lands
  exact emp_bigSepL _ _ fun p _ => onlyIf_false (h p.1) _

theorem barPay_none (d : Fin 3) (c : Dev nD) (h : ¬ vB d c = true) : (barPay d c : sProp 𝕄) = iprop(emp) := by
  have h0 : ∀ (c : Dev nD), ¬ vB 0 c = true → ∀ s, ¬ vS .ls s c = true := by decide +kernel
  have h1 : ∀ (c : Dev nD), ¬ vB 1 c = true → ∀ s, ¬ vS .rs s c = true := by decide +kernel
  match d with
  | 0 => exact lands_none .ls c (h0 c h)
  | 1 => exact lands_none .rs c (h1 c h)
  | 2 => exact absurd rfl h

theorem univ3 : (Finset.univ : Finset (Fin 3)) = [0, 1, 2].toFinset := by decide

theorem bar_pays (c : Dev nD) : (bigSep ((Rd X).duties (bCell c) 0 \ ∅) (fun d => (Rd X).payload (bCell c) 0 d) : sProp 𝕄)
    = iprop(lands .ls c ∗ lands .rs c ∗ lands .xr c ∗ lands .xl c) := by
  rw [Finset.sdiff_empty, duties_of X ck_bar c]
  have h1 : (bigSep (dutiesOf .bar c) (fun d => (Rd X).payload (bCell c) 0 d) : sProp 𝕄) = bigSep Finset.univ fun d => barPay d c := by
    show bigSep (Finset.univ.filter fun d => vB d c = true) _ = _
    rw [bigSep_filter]
    refine bigSep_congr fun d _ => ?_
    by_cases h : vB d c = true
    · rw [if_pos h]; exact payload_of X ck_bar c d
    · rw [if_neg h]; exact (barPay_none d c h).symm
  rw [h1, bigSep_univ_eq_bigSepL [0, 1, 2] univ3 (by decide)]
  rfl

theorem lands_all (c : Dev nD) :
    TT X c (ksqL.map fun p => .dl p.1 p.2.1 p.2.2) = iprop(lands .rs c ∗ lands .ls c ∗ lands .xr c ∗ lands .xl c) := by
  have h (k : Kd) : TT X c (sqL.map fun p => .dl k p.1 p.2) = lands k c := TT_map X c sqL fun p => Tok.dl k p.1 p.2
  have hl : (ksqL.map fun p => Tok.dl p.1 p.2.1 p.2.2)
    = (sqL.map fun p => .dl .rs p.1 p.2) ++ ((sqL.map fun p => .dl .ls p.1 p.2) ++ ((sqL.map fun p => .dl .xr p.1 p.2) ++ (sqL.map fun p => .dl .xl p.1 p.2))) := by
    decide +kernel
  rw [hl, TT_append, TT_append, TT_append, h, h, h, h]

theorem step_bar (K : Dev nD × Fin 206 → ℕ) (c : Dev nD) : Step X K c .bar := by
  intro ow ha Kp Q
  have hpre : TT X c (pre .bar) = iprop(atPos ER (bCell c) 0 ∅ 0 ∗ cred (tallyAt (bCell c) () 3)) := rfl
  have hpost : TT X c (post .bar) = iprop(atPos ER (bCell c) 1 ∅ 0 ∗ TT X c (ksqL.map fun p => .dl p.1 p.2.1 p.2.2)) := TT_cons X c _ _
  have hpop : pops .bar ++ ow = ow := rfl
  have hr : run .bar c Kp = .op (.semWait barSem 3) fun _ => Kp := rfl
  have hm : ctx X K ⊢ MayWait (c : Thread nD τ) (.reg barSem) () (oweSum ow c) := (lev_at X K).trans (mayWait' c (.reg barSem) 1 (by rw [ck_bar]; exact Nat.le_refl 1) ow ha)
  rw [hpre, hpost, hpop, hr, lands_all]
  unfold OW
  iintro ⟨#Hc, ⟨Hat, Hcr⟩, ⟨%W, HO⟩⟩ Hk
  ihave Hr := (rec_at X K c (.reg barSem) (by rw [ck_bar]; exact fun h => by cases h)) $$ Hc
  icases Hr with ⟨%κ', #HI, #HR⟩
  iapply (Rounds.wp_wait_rest_token 𝒱₀ ER (Rd X) (c : Thread nD τ) none (κ := κ') (sm := .reg barSem) (k' := 3)
      (wpE_semWait_eq 𝒱₀ (c : Thread nD τ) none Set.univ) (Set.mem_univ _) () (O := oweSum ow c) (W := W) (R := 0) (m := 0) (T := ∅)
      ((Nat.zero_add 3).trans (expect_bar X c).symm)) $$ [Hcr HO Hat]
  · isplitr; · iexact HI
    isplitl [Hcr]; · iexact Hcr
    isplitl [HO]; · iexact HO
    isplitr; · iapply hm; iexact Hc
    iexact Hat
  iintro ⟨HO, Hat, -, Hpay⟩
  ihave Hp := (Entails.of_eq (bar_pays X c)) $$ Hpay
  icases Hp with ⟨H1, H2, H3, H4⟩
  iapply Hk
  isplitr [HO]
  · isplitl [Hat]; · iexact Hat
    isplitl [H2]; · iexact H2
    isplitl [H1]; · iexact H1
    isplitl [H3]; · iexact H3
    iexact H4
  iexists _; iexact HO

end Cert.KernelIdeal.AG
-- ==== Proof.StepsB.lean ====
module

public import proofs.«01_k».proof.Proof.StepsA
public import Idealize.ShloMosaic.Lib.Pipeline.Value

/-! The step of each operation on the device itself: copying its half block, the stores into the result, the waits for them. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → (cc0_stg0_0 : Ref sig .tc).ty.Contents (Elt F))

/-! ## The stores -/

theorem NT_half (k : Kd) (s : Fin 3) (c : Dev nD) : (outHalf k s c).view.dmaCredit = NT (some (k, s)) := rfl
theorem NT_own (c : Dev nD) : (outOwn c).view.dmaCredit = NT none := rfl

theorem wp_store (K : Dev nD × Fin 206 → ℕ) (c : Dev nD) (k : Kd) (s : Fin 3) (h : vR k s c = true) (Kp : PF F PUnit) (Q : PUnit → sProp 𝕄) :
    iprop(ctx X K ∗ slotPts X k s c (shT k) ∗ outAny (some (k, s)) c ∗ dutyTok ER (tCell (some (k, s)) c) 0 0)
      ⊢ iprop((cred (tallyAt (tCell (some (k, s)) c) () NH) -∗ WP c Kp Q) -∗ WP c (.op (storeE k s c) fun _ => Kp) Q) :=
  wp_storeOne X K c (some (k, s)) h (slotM k s) (outHalf k s c) (sT (stN k s)) rfl (shT k) (V X k c) (OV X c)
    ((read_half X k s c h).trans (read_slot X k s c).symm) rfl rfl rfl (NT_half k s c) (kt := fun _ => Kp) (Q := Q)

theorem stps_eq (c : Dev nD) (k : Kd) (s : Fin 3) (h : vR k s c = true) : TT X c (qs.map fun q => .stp k s q) = slotPts X k s c (shT k) := by
  rw [TT_map, slot_pieces]
  exact congrArg (bigSepL qs) (funext fun q => onlyIf_true h _)

theorem step_storeY (K : Dev nD × Fin 206 → ℕ) (c : Dev nD) (l : Bool) (s : Fin 3) : Step X K c (.storeY l s) := by
  intro ow ha Kp Q
  have hpre : TT X c (pre (.storeY l s)) = iprop((I X c (.tT (some (kY l, s))) ∗ I X c (.out (some (kY l, s)))) ∗ TT X c (qs.map fun q => .stp (kY l) s q)) := TT_append X c _ _
  have hpost : TT X c (post (.storeY l s)) = I X c (.cT (some (kY l, s))) := rfl
  have hpop : pops (.storeY l s) ++ ow = ow := rfl
  have ht : I X c (.tT (some (kY l, s))) = dutyTok ER (tCell (some (kY l, s)) c) 0 0 := rfl
  rw [hpre, hpost, hpop, ht]
  by_cases h : vR (kY l) s c = true
  · have hr : run (.storeY l s) c Kp = .op (storeE (kY l) s c) fun _ => Kp := dif_pos ((cR_iff _ s c).mpr h)
    have h1 : I X c (.out (some (kY l, s))) = outAny (some (kY l, s)) c := onlyIf_true h _
    have h2 : I X c (.cT (some (kY l, s))) = cred (tallyAt (tCell (some (kY l, s)) c) () NH) := onlyIf_true h _
    rw [hr, h1, h2, stps_eq X c (kY l) s h]
    iintro ⟨#Hc, ⟨⟨Ht, Hd⟩, Hs⟩, Ho⟩ Hk
    iapply (wp_store X K c (kY l) s h Kp Q) $$ [Ht Hd Hs]
    · isplitr; · iexact Hc
      isplitl [Hs]; · iexact Hs
      isplitl [Hd]; · iexact Hd
      iexact Ht
    iintro Hcr
    iapply Hk
    isplitl [Hcr]; · iexact Hcr
    iexact Ho
  · have hr : run (.storeY l s) c Kp = Kp := dif_neg fun hh => h ((cR_iff _ s c).mp hh)
    have h2 : I X c (.cT (some (kY l, s))) = iprop(emp) := onlyIf_false h _
    rw [hr, h2]
    iintro ⟨-, -, Ho⟩ Hk
    iapply Hk
    isplitr; · iempintro
    iexact Ho

theorem step_ownStart (K : Dev nD × Fin 206 → ℕ) (c : Dev nD) : Step X K c .ownStart := by
  intro ow ha Kp Q
  have hpre : TT X c (pre .ownStart) = iprop(inPts X c ∗ outAny none c ∗ dutyTok ER (tCell none c) 0 0) := rfl
  have hpost : TT X c (post .ownStart) = cred (tallyAt (tCell none c) () (NT none)) := rfl
  have hpop : pops .ownStart ++ ow = ow := rfl
  rw [hpre, hpost, hpop]
  have hsrc : inPts X c = stSrc X none c := rfl
  iintro ⟨#Hc, ⟨Hs, Hd, Ht⟩, Ho⟩ Hk
  iapply (wp_storeOne X K c none rfl inM (outOwn c) (sT 0) rfl fullShare (X c) (OV X c) (read_outOwn X c) rfl rfl rfl (NT_own c) (kt := fun _ => Kp) (Q := Q)) $$ [Ht Hd Hs]
  · isplitr; · iexact Hc
    isplitl [Hs]; · iapply (Entails.of_eq hsrc); iexact Hs
    isplitl [Hd]; · iexact Hd
    iexact Ht
  iintro Hcr
  iapply Hk
  isplitl [Hcr]; · iexact Hcr
  iexact Ho

/-! ## The waits for the stores -/

theorem fin_spec (c : Dev nD) (k : Kd) (s : Fin 3) (G : PUnit → sProp 𝕄) :
    wpE (defs₀ (F := F)) 𝒱₀ (c : Thread nD τ) none Set.univ (finE k s c) G = waitSpec (c : Thread nD τ) Set.univ (.dma (sT (stN k s))) (NT (some (k, s))) G := rfl

theorem wp_fin (K : Dev nD × Fin 206 → ℕ) (c : Dev nD) (o : Option (Kd × Fin 3)) (h : vT o c = true) (w : TpuEff nD τ sig (Elt F) Λ₀ .tc PUnit)
    (hw : ∀ G : PUnit → sProp 𝕄, wpE (defs₀ (F := F)) 𝒱₀ (c : Thread nD τ) none Set.univ w G = waitSpec (c : Thread nD τ) Set.univ (.dma (sTo o)) (NT o) G)
    (ow : List Owe) (ha : above 0 ow = true) (Kp : PF F PUnit) (Q : PUnit → sProp 𝕄) :
    iprop(ctx X K ∗ I X c (.aT false o) ∗ I X c (.cT o) ∗ OW ow c)
      ⊢ iprop(((I X c (.aT true o) ∗ I X c (.dn o) ∗ OW ow c) -∗ WP c Kp Q) -∗ WP c (.op w fun _ => Kp) Q) := by
  have h0 (r : Bool) : I X c (.aT r o) = atPos ER (tCell o c) (rnd r (vT o c)) ∅ 0 := rfl
  have h1 : I X c (.cT o) = cred (tallyAt (tCell o c) () (NT o)) := onlyIf_true h _
  have h2 : I X c (.dn o) = iprop(outPts X o c ∗ stSrc X o c) := onlyIf_true h _
  have hpay : payOf X (.st o) c 0 = iprop(outPts X o c ∗ stSrc X o c) := rfl
  rw [h0, h0, h1, h2, rnd_false, rnd_true h]
  iintro ⟨#Hc, Ha, Hcr, Ho⟩ Hk
  iapply (wp_waitOne X K c (w := w) (ck_st o) (N := NT o) (fun hh => by cases hh) (fun hh => by cases hh) h rfl hw
    0 (Nat.le_refl 0) ow ha (k := fun _ => Kp) (Q := Q)) $$ [Ha Hcr Ho]
  · isplitr; · iexact Hc
    isplitl [Hcr]; · iexact Hcr
    isplitl [Ha]; · iexact Ha
    iexact Ho
  iintro ⟨Ha, Hp, Ho⟩
  iapply Hk
  isplitl [Ha]; · iexact Ha
  isplitl [Hp]; · iapply (Entails.of_eq hpay); iexact Hp
  iexact Ho

theorem step_ownFin (K : Dev nD × Fin 206 → ℕ) (c : Dev nD) : Step X K c .ownFin := by
  intro ow ha Kp Q
  have hpre : TT X c (pre .ownFin) = iprop(I X c (.aT false none) ∗ I X c (.cT none)) := rfl
  have hpost : TT X c (post .ownFin) = iprop(I X c (.aT true none) ∗ I X c (.dn none)) := rfl
  have hpop : pops .ownFin ++ ow = ow := rfl
  rw [hpre, hpost, hpop]
  iintro ⟨#Hc, ⟨Ha, Hcr⟩, Ho⟩ Hk
  iapply (wp_fin X K c none rfl _ (fun G => rfl) ow ha Kp Q) $$ [Ha Hcr Ho]
  · isplitr; · iexact Hc
    isplitl [Ha]; · iexact Ha
    isplitl [Hcr]; · iexact Hcr
    iexact Ho
  iintro ⟨Ha, Hd, Ho⟩
  iapply Hk
  isplitl [Ha Hd]
  · isplitl [Ha]; · iexact Ha
    iexact Hd
  iexact Ho

theorem vR_kX (l : Bool) (s : Fin 3) (c : Dev nD) : vR (kX l) s c = vR (kY l) s c := by cases l <;> rfl
theorem cR_kX (l : Bool) (s : Fin 3) (c : Dev nD) : cR (kX l) s c = cR (kY l) s c := by cases l <;> rfl

theorem step_fin (K : Dev nD × Fin 206 → ℕ) (c : Dev nD) (l : Bool) (s : Fin 3) : Step X K c (.fin l s) := by
  intro ow ha Kp Q
  have hpre : TT X c (pre (.fin l s)) = iprop(I X c (.aT false (some (kY l, s))) ∗ I X c (.cT (some (kY l, s)))
    ∗ I X c (.aT false (some (kX l, s))) ∗ I X c (.cT (some (kX l, s)))) := rfl
  have hpost : TT X c (post (.fin l s)) = iprop(I X c (.aT true (some (kY l, s))) ∗ I X c (.dn (some (kY l, s)))
    ∗ I X c (.aT true (some (kX l, s))) ∗ I X c (.dn (some (kX l, s)))) := rfl
  have hpop : pops (.fin l s) ++ ow = ow := rfl
  rw [hpre, hpost, hpop]
  by_cases h : vR (kY l) s c = true
  · have hr : run (.fin l s) c Kp = .op (finE (kY l) s c) fun _ => .op (finE (kX l) s c) fun _ => Kp := dif_pos ((cR_iff _ s c).mpr h)
    rw [hr]
    iintro ⟨#Hc, ⟨Ha1, Hc1, Ha2, Hc2⟩, Ho⟩ Hk
    iapply (wp_fin X K c (some (kY l, s)) h _ (fin_spec c (kY l) s) ow ha (.op (finE (kX l) s c) fun _ => Kp) Q) $$ [Ha1 Hc1 Ho]
    · isplitr; · iexact Hc
      isplitl [Ha1]; · iexact Ha1
      isplitl [Hc1]; · iexact Hc1
      iexact Ho
    iintro ⟨Ha1, Hd1, Ho⟩
    iapply (wp_fin X K c (some (kX l, s)) ((vR_kX l s c).trans h) _ (fin_spec c (kX l) s) ow ha Kp Q) $$ [Ha2 Hc2 Ho]
    · isplitr; · iexact Hc
      isplitl [Ha2]; · iexact Ha2
      isplitl [Hc2]; · iexact Hc2
      iexact Ho
    iintro ⟨Ha2, Hd2, Ho⟩
    iapply Hk
    isplitr [Ho]
    · isplitl [Ha1]; · iexact Ha1
      isplitl [Hd1]; · iexact Hd1
      isplitl [Ha2]; · iexact Ha2
      iexact Hd2
    iexact Ho
  · have hr : run (.fin l s) c Kp = Kp := dif_neg fun hh => h ((cR_iff _ s c).mp hh)
    have h' : ¬ vR (kX l) s c = true := by rw [vR_kX]; exact h
    have h0 (k : Kd) (hk : ¬ vR k s c = true) (r : Bool) : I X c (.aT r (some (k, s))) = atPos ER (tCell (some (k, s)) c) 0 ∅ 0 := by
      show atPos ER (tCell (some (k, s)) c) (rnd r (vR k s c)) ∅ 0 = _
      rw [rnd_no hk]
    have h1 (k : Kd) (hk : ¬ vR k s c = true) : I X c (.dn (some (k, s))) = iprop(emp) := onlyIf_false hk _
    rw [hr, h0 _ h, h0 _ h, h0 _ h', h0 _ h', h1 _ h, h1 _ h']
    iintro ⟨-, ⟨Ha1, -, Ha2, -⟩, Ho⟩ Hk
    iapply Hk
    isplitr [Ho]
    · isplitl [Ha1]; · iexact Ha1
      isplitr; · iempintro
      isplitl [Ha2]; · iexact Ha2
      iempintro
    iexact Ho

/-! ## The relayed pieces -/

/-- Waiting for pieces of a slot, one after another. -/
def recvs (k : Kd) (s : Fin 3) (Kp : PF F PUnit) : List (Fin 8) → PF F PUnit
  | [] => Kp
  | q :: l => .op (waitRE k s q) fun _ => recvs k s Kp l

theorem wp_recvs (K : Dev nD × Fin 206 → ℕ) (c : Dev nD) (k : Kd) (s : Fin 3) (h : vR k s c = true) (n : ℕ) (hn : ∀ q, clv (.rcv k s q) ≤ n)
    (ow : List Owe) (ha : above n ow = true) (Kp : PF F PUnit) (Q : PUnit → sProp 𝕄) (l : List (Fin 8)) :
    iprop(ctx X K ∗ (bigSepL l fun q => I X c (.aR false k s q)) ∗ (bigSepL l fun q => I X c (.cR k s q)) ∗ OW ow c)
      ⊢ iprop((((bigSepL l fun q => I X c (.aR true k s q)) ∗ (bigSepL l fun q => pcPts X k s q c fullShare) ∗ OW ow c) -∗ WP c Kp Q)
          -∗ WP c (recvs k s Kp l) Q) := by
  induction l with
  | nil =>
    show _ ⊢ iprop(_ -∗ WP c Kp Q)
    iintro ⟨-, -, -, Ho⟩ Hk
    iapply Hk
    isplitr; · iempintro
    isplitr; · iempintro
    iexact Ho
  | cons q l ih =>
    rw [bigSepL_cons', bigSepL_cons', bigSepL_cons', bigSepL_cons']
    show _ ⊢ iprop(_ -∗ WP c (.op (waitRE k s q) fun _ => recvs k s Kp l) Q)
    iintro ⟨#Hc, ⟨Ha, Has⟩, ⟨Hcr, Hcrs⟩, Ho⟩ Hk
    iapply (wp_recv X K c k s q h n (hn q) ow ha (recvs k s Kp l) Q) $$ [Ha Hcr Ho]
    · isplitr; · iexact Hc
      isplitl [Hcr]; · iexact Hcr
      isplitl [Ha]; · iexact Ha
      iexact Ho
    iintro ⟨Ha, Hp, Ho⟩
    iapply ih $$ [Has Hcrs Ho]
    · isplitr; · iexact Hc
      isplitl [Has]; · iexact Has
      isplitl [Hcrs]; · iexact Hcrs
      iexact Ho
    iintro ⟨Has, Hps, Ho⟩
    iapply Hk
    isplitl [Ha Has]
    · isplitl [Ha]; · iexact Ha
      iexact Has
    isplitl [Hp Hps]
    · isplitl [Hp]; · iexact Hp
      iexact Hps
    iexact Ho

theorem shT_kX (l : Bool) : shT (kX l) = fullShare := by cases l <;> rfl

theorem step_recvX (K : Dev nD × Fin 206 → ℕ) (c : Dev nD) (l : Bool) (s : Fin 3) : Step X K c (.recvX l s) := by
  intro ow ha Kp Q
  have hpre : TT X c (pre (.recvX l s)) = iprop(((I X c (.tT (some (kX l, s))) ∗ I X c (.out (some (kX l, s)))) ∗ (bigSepL qs fun q => I X c (.aR false (kX l) s q)))
      ∗ (bigSepL qs fun q => I X c (.cR (kX l) s q))) := by
    show TT X c (([_, _] ++ qs.map _) ++ qs.map _) = _
    rw [TT_append, TT_append, TT_map, TT_map]; rfl
  have hpost : TT X c (post (.recvX l s)) = iprop(I X c (.cT (some (kX l, s))) ∗ (bigSepL qs fun q => I X c (.aR true (kX l) s q))) := by
    show TT X c ([_] ++ qs.map _) = _
    rw [TT_append, TT_map]; rfl
  have hpop : pops (.recvX l s) ++ ow = ow := rfl
  have ht : I X c (.tT (some (kX l, s))) = dutyTok ER (tCell (some (kX l, s)) c) 0 0 := rfl
  rw [hpre, hpost, hpop, ht]
  by_cases h : vR (kX l) s c = true
  · have hr : run (.recvX l s) c Kp = recvs (kX l) s (.op (storeE (kX l) s c) fun _ => Kp) qs := dif_pos ((cR_iff _ s c).mpr h)
    have h1 : I X c (.out (some (kX l, s))) = outAny (some (kX l, s)) c := onlyIf_true h _
    have h2 : I X c (.cT (some (kX l, s))) = cred (tallyAt (tCell (some (kX l, s)) c) () NH) := onlyIf_true h _
    rw [hr, h1, h2]
    iintro ⟨#Hc, ⟨⟨⟨Ht, Hd⟩, Ha⟩, Hcr⟩, Ho⟩ Hk
    iapply (wp_recvs X K c (kX l) s h 10 (fun q => by cases l <;> exact Nat.le_refl _) ow ha (.op (storeE (kX l) s c) fun _ => Kp) Q qs) $$ [Ha Hcr Ho]
    · isplitr; · iexact Hc
      isplitl [Ha]; · iexact Ha
      isplitl [Hcr]; · iexact Hcr
      iexact Ho
    iintro ⟨Ha, Hp, Ho⟩
    iapply (wp_store X K c (kX l) s h Kp Q) $$ [Ht Hd Hp]
    · isplitr; · iexact Hc
      isplitl [Hp]; · rw [shT_kX, slot_pieces]; iexact Hp
      isplitl [Hd]; · iexact Hd
      iexact Ht
    iintro Hcr
    iapply Hk
    isplitl [Hcr Ha]
    · isplitl [Hcr]; · iexact Hcr
      iexact Ha
    iexact Ho
  · have hr : run (.recvX l s) c Kp = Kp := dif_neg fun hh => h ((cR_iff _ s c).mp hh)
    have h2 : I X c (.cT (some (kX l, s))) = iprop(emp) := onlyIf_false h _
    have h0 (r : Bool) : (bigSepL qs fun q => I X c (.aR r (kX l) s q)) = bigSepL qs fun q => atPos ER (rCell (kX l) s q c) 0 ∅ 0 := by
      refine congrArg (bigSepL qs) (funext fun q => ?_)
      show atPos ER (rCell (kX l) s q c) (rnd r (vR (kX l) s c)) ∅ 0 = _
      rw [rnd_no h]
    rw [hr, h2, h0, h0]
    iintro ⟨-, ⟨⟨-, Ha⟩, -⟩, Ho⟩ Hk
    iapply Hk
    isplitl [Ha]
    · isplitr; · iempintro
      iexact Ha
    iexact Ho

/-! ## Copying one's own half block -/

/-- The rows of the input block that the device sends. -/
theorem read_in (c : Dev nD) :
    (inM).view.readAt (Elt F) (Rect.unit (s := S512x512) (k0_off1 c) S256x512.size (k0_off1_inb c)).toLoadRect (X c) = OWN X c := by
  refine funext fun (y : S256x512.Idx) => ?_
  refine (show _ = X c ((Rect.unit (s := S512x512) (k0_off1 c) S256x512.size (k0_off1_inb c)).emb y) from rfl).trans ?_
  have hy : (y 0).val < 256 := (y 0).isLt
  have ho : k0_off1 c = ![256 * (c.val / 16), 0] := k0_off1_eq c
  have hx : c.val / 16 < 2 := by have := lt32 c; omega
  have e0 : ((Rect.unit (s := S512x512) (k0_off1 c) S256x512.size (k0_off1_inb c)).emb y 0).val = 256 * (c.val / 16) + (y 0).val := by
    rw [Rect.emb_apply]
    refine (show _ = k0_off1 c 0 + 1 * (y 0).val from rfl).trans ?_
    generalize k0_off1 c = w at ho
    subst ho
    exact congrArg (256 * (c.val / 16) + ·) (Nat.one_mul _)
  have e1 : (Rect.unit (s := S512x512) (k0_off1 c) S256x512.size (k0_off1_inb c)).emb y 1 = y 1 := by
    apply Fin.ext
    rw [Rect.emb_apply]
    refine (show _ = k0_off1 c 1 + 1 * (y 1).val from rfl).trans ?_
    generalize k0_off1 c = w at ho
    subst ho
    show 0 + 1 * (y 1).val = _; omega
  unfold OWN
  congr 1
  funext a
  match a with
  | ⟨0, _⟩ =>
    apply Fin.ext
    refine e0.trans ?_
    show _ = (256 * (c.val / 16) + (y 0).val) % 512
    rw [Nat.mod_eq_of_lt (by omega)]
  | ⟨1, _⟩ => exact e1

theorem own_half (c : Dev nD) : (ownAll c fullShare (OWN X c) : sProp 𝕄) = iprop(ownAll c fullShare.left (OWN X c) ∗ ownAll c fullShare.right (OWN X c)) := by
  have h := pointsTo_share (nD := nD) (τ := τ) (sig := sig) (Ix := Unit) (Val := Elt F) (Name := ℕ) (U := UU) (Lvl := ℕ)
    (ℓ := (ownM).view.loc (c : Thread nD τ)) (I := Finset.univ) (f := OWN X c) (PosShare.mem_left_op_right fullShare)
  exact equiv_iff.mp ⟨h.1, h.2⟩

theorem srcs_own (c : Dev nD) :
    (ownAll c fullShare (OWN X c) : sProp 𝕄) = iprop((bigSepL qs fun q => I X c (.src .rs 0 q)) ∗ (bigSepL qs fun q => I X c (.src .ls 0 q))) := by
  rw [own_half, own_pieces, own_pieces]; rfl

theorem pay1_eq (v : S256x512.Idx → Elt F .f32) : k0_pay1 v = v := by
  unfold k0_pay1; exact (shapeCast_self _ _).trans (shapeCast_self _ _)

theorem step_copyOwn (K : Dev nD × Fin 206 → ℕ) (c : Dev nD) : Step X K c .copyOwn := by
  intro ow ha Kp Q
  have hpre : TT X c (pre .copyOwn) = iprop(inPts X c ∗ (∃ f : Buf (Elt F) ((ownM).view.loc (c : Thread nD τ)), ownAll c fullShare f)) := rfl
  have hpost : TT X c (post .copyOwn) = iprop((inPts X c ∗ (bigSepL qs fun q => I X c (.src .rs 0 q))) ∗ (bigSepL qs fun q => I X c (.src .ls 0 q))) := by
    show TT X c (([_] ++ qs.map _) ++ qs.map _) = _
    rw [TT_append, TT_append, TT_map, TT_map]; rfl
  have hpop : pops .copyOwn ++ ow = ow := rfl
  rw [hpre, hpost, hpop]
  have hgo : iprop((inPts X c ∗ ownAll c fullShare (OWN X c)) ∗ OW ow c) ⊢ iprop(((inPts X c ∗ (bigSepL qs fun q => I X c (.src .rs 0 q))) ∗ (bigSepL qs fun q => I X c (.src .ls 0 q))) ∗ OW ow c) := by
    rw [srcs_own]
    iintro ⟨⟨Hi, ⟨Ha, Hb⟩⟩, Ho⟩
    isplitr [Ho]
    · isplitr [Hb]
      · isplitl [Hi]; · iexact Hi
        iexact Ha
      iexact Hb
    iexact Ho
  unfold inPts ownAll at hgo ⊢
  iintro ⟨-, ⟨Hi, ⟨%f, Hw⟩⟩, Ho⟩ Hk
  unfold run
  iapply (wp_load 𝒱₀ (c : Thread nD τ) none Set.univ (m := inM) (S := (inM).view.set) (q := fullShare) (f := X c)
    (r := (Rect.unit (s := S512x512) (k0_off1 c) S256x512.size (k0_off1_inb c)).toLoadRect) (by rw [View.set_whole]; exact Finset.subset_univ _)) $$ Hi
  iintro Hi
  iapply (wp_load 𝒱₀ (c : Thread nD τ) none Set.univ (m := ownM) (S := Finset.univ) (q := fullShare) (f := f)
    (r := (Rect.unit (s := S256x512) ![0, 0] S256x512.size inb_S256x512_S256x512_0_0).toLoadRect) (Finset.subset_univ _)) $$ Hw
  iintro Hw
  iapply (Idealize.ShloMosaic.wp_store 𝒱₀ (c : Thread nD τ) none Set.univ (m := ownM) (S := Finset.univ) (f := f) (Mk := Finset.univ)
    (r := (Rect.unit (s := S256x512) ![0, 0] S256x512.size inb_S256x512_S256x512_0_0)) (Finset.subset_univ _)) $$ Hw
  iintro Hw
  iapply Hk
  iapply hgo
  isplitl [Hi Hw]
  · isplitl [Hi]; · iexact Hi
    iapply (Entails.of_eq (congrArg (fun g => ((ownM).view.loc (c : Thread nD τ) ↦[Finset.univ]{fullShare} g : sProp 𝕄))
      ((Memref.write_access_unit_zero_univ (Elt F) cc0_scratch0 (by funext a; fin_cases a <;> rfl) inb_S256x512_S256x512_0_0 f _).trans ((pay1_eq _).trans (read_in X c)))))
    iexact Hw
  iexact Ho

/-! ## Every operation -/

theorem steps (K : Dev nD × Fin 206 → ℕ) (c : Dev nD) (o : Op) : Step X K c o := by
  cases o with
  | sigR => exact step_sigR X K c
  | sigL => exact step_sigL X K c
  | sigP => exact step_sigP X K c
  | copyOwn => exact step_copyOwn X K c
  | ownStart => exact step_ownStart X K c
  | bar => exact step_bar X K c
  | send k s q => exact step_send X K c k s q
  | recvY l s q => exact step_recvY X K c l s q
  | storeY l s => exact step_storeY X K c l s
  | recvX l s => exact step_recvX X K c l s
  | waitS k s q => exact step_waitS X K c k s q
  | ownFin => exact step_ownFin X K c
  | fin l s => exact step_fin X K c l s

/-- The whole run: from what a device starts with to what it ends with, all paid. -/
theorem run_all (K : Dev nD × Fin 206 → ℕ) (c : Dev nD) (Kp : PF F PUnit) (Q : PUnit → sProp 𝕄) :
    iprop(ctx X K ∗ TT X c startToks ∗ OW owed c) ⊢ iprop(((TT X c endToks ∗ OW [] c) -∗ WP c Kp Q) -∗ WP c (runs allOps c Kp) Q) := by
  obtain ⟨st, rest, h1, h2⟩ := exec_all
  have h := runs_exec X K c (steps X K c) allOps _ _ _ _ h1 Kp Q
  rw [TN_codes, TN_takeAll X c h2, TN_codes] at h
  refine h.trans ?_
  iintro H Hk
  iapply H
  iintro ⟨⟨He, -⟩, Ho⟩
  iapply Hk
  isplitl [He]; · iexact He
  iexact Ho

end Cert.KernelIdeal.AG
-- ==== Proof.Cells.lean ====
module

public import proofs.«01_k».proof.Proof.StepsB

/-! The protocol's cells listed: their tokens as the launch gives them and as the devices use them, and what the launch
credits each cell with. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

/-! ## Lists -/

theorem bigSepL_permute {J : Type} {l l' : List J} (h : l.Perm l') (Φ : J → sProp 𝕄) : bigSepL l Φ = bigSepL l' Φ := by
  induction h with
  | nil => rfl
  | cons a _ ih => rw [bigSepL_cons', bigSepL_cons', ih]
  | swap a b l => rw [bigSepL_cons', bigSepL_cons', bigSepL_cons', bigSepL_cons']; exact sepL _ _ _
  | trans _ _ h1 h2 => exact h1.trans h2

theorem bigSepL_both {J : Type} (l : List J) (Φ Ψ : J → sProp 𝕄) :
    (bigSepL l fun i => iprop(Φ i ∗ Ψ i)) = iprop(bigSepL l Φ ∗ bigSepL l Ψ) := by
  induction l with
  | nil => exact (sepE _).symm
  | cons a l ih => rw [bigSepL_cons', bigSepL_cons', bigSepL_cons', ih, sepA, sepA, sepL (Ψ a)]

theorem bigSep_list {J D : Type} (S : Finset D) (l : List J) (Φ : D → J → sProp 𝕄) :
    (bigSep S fun d => bigSepL l (Φ d)) = bigSepL l fun j => bigSep S fun d => Φ d j := by
  induction l with
  | nil => exact bigSep_emp_const S
  | cons a l ih =>
    rw [bigSepL_cons', ← ih, ← bigSep_sep']
    exact bigSep_congr fun d _ => bigSepL_cons' ..

/-! ## The cells -/

/-- The semaphore of each purpose. -/
def semOf : CK → SemLoc sig
  | .no => .dma ⟨0, by decide⟩ | .bar => .reg barSem | .snd k s q => .dma (sS k s q) | .rcv k s q => .dma (sR k s q) | .st o => .dma (sTo o)
theorem ck_semOf (κ : CK) (h : κ ≠ .no) : ck (semOf κ) = κ := by
  cases κ with
  | no => exact absurd rfl h
  | bar => exact ck_bar
  | snd k s q => exact ck_snd k s q
  | rcv k s q => exact ck_rcv k s q
  | st o => exact ck_st o

/-- All purposes. -/
def ckL : List CK := [.bar] ++ ((oL.map fun o => .st o) ++ ((ksqL.map fun p => .rcv p.1 p.2.1 p.2.2) ++ (ksqL.map fun p => .snd p.1 p.2.1 p.2.2)))

theorem csem_semOf : ∀ i : Fin 206, csem i = semOf (ck (csem i)) := by decide +kernel
theorem ckL_perm : ((List.finRange 206).map fun i => ck (csem i)).Perm ckL := by decide +kernel

/-- Something at every cell of a device, listed. -/
theorem cells_list (Φ : SemLoc sig → sProp 𝕄) : (bigSep Finset.univ fun i : Fin 206 => Φ (csem i))
    = iprop(Φ (.reg barSem) ∗ (bigSepL oL fun o => Φ (.dma (sTo o))) ∗ (bigSepL ksqL fun p => Φ (.dma (sR p.1 p.2.1 p.2.2)))
      ∗ (bigSepL ksqL fun p => Φ (.dma (sS p.1 p.2.1 p.2.2)))) := by
  have h1 : (bigSep Finset.univ fun i : Fin 206 => Φ (csem i)) = bigSepL (List.finRange 206) fun i => Φ (semOf (ck (csem i))) := by
    rw [bigSep_univ_eq_bigSepL (List.finRange 206) (List.toFinset_finRange 206).symm (List.nodup_finRange 206)]
    exact congrArg (bigSepL _) (funext fun i => congrArg Φ (csem_semOf i))
  rw [h1, ← bigSepL_map (fun i => ck (csem i)) (List.finRange 206) (fun κ => Φ (semOf κ)), bigSepL_permute ckL_perm]
  unfold ckL
  rw [bigSepL_append, bigSepL_append, bigSepL_append, bigSepL_map, bigSepL_map, bigSepL_map]
  rfl

theorem csem_injective : Function.Injective csem := by
  intro i j h
  unfold csem at h
  apply Fin.ext
  by_cases hi : i = 0 <;> by_cases hj : j = 0
  · rw [hi, hj]
  · rw [if_pos hi, if_neg hj] at h; cases h
  · rw [if_neg hi, if_pos hj] at h; cases h
  · rw [if_neg hi, if_neg hj] at h
    have := congrArg Fin.val (SemLoc.dma.inj h)
    exact Nat.succ.inj this

theorem kcell_injective : Function.Injective (kcell : Dev nD × Fin 206 → GSem nD τ sig) := by
  rintro ⟨c, i⟩ ⟨c', i'⟩ h
  have h1 : c = c' := congrArg (fun g : GSem nD τ sig => g.1.1) h
  have h2 : i = i' := csem_injective (congrArg Prod.snd h)
  rw [h1, h2]

def allCells : Finset (GSem nD τ sig) := Finset.univ.map ⟨kcell, kcell_injective⟩

/-- The duty tokens as minted: three for each cell. -/
abbrev tokOf (x : (Dev nD × Fin 206) × Fin 3) : GSem nD τ sig × ℕ × Fin 3 := (kcell x.1, 0, x.2)
theorem tokOf_injective : Function.Injective (tokOf : (Dev nD × Fin 206) × Fin 3 → GSem nD τ sig × ℕ × Fin 3) := by
  rintro ⟨a, d⟩ ⟨a', d'⟩ h
  have h1 : a = a' := kcell_injective (congrArg Prod.fst h)
  have h2 : d = d' := congrArg (fun x : GSem nD τ sig × ℕ × Fin 3 => x.2.2) h
  rw [h1, h2]
def allToks : Finset (GSem nD τ sig × ℕ × Fin 3) := Finset.univ.map ⟨tokOf, tokOf_injective⟩

/-- The duty tokens of a device's own cells. -/
def toks (c : Dev nD) : sProp 𝕄 := bigSep Finset.univ fun i : Fin 206 => bigSep Finset.univ fun d : Fin 3 => dutyTok ER (kcell (c, i)) 0 d

theorem fin3 (Φ : Fin 3 → sProp 𝕄) : bigSep Finset.univ Φ = iprop(Φ 0 ∗ Φ 1 ∗ Φ 2) := bigSep_univ_eq_bigSepL [0, 1, 2] (by decide) (by decide) Φ

theorem tok_zero (g : GSem nD τ sig) : (bigSep Finset.univ fun d : Fin 3 => (dutyTok ER g 0 d : sProp 𝕄)) ⊢ dutyTok ER g 0 0 :=
  bigSep_elim (Finset.mem_univ 0)

/-- Those that are used. -/
def ownToks (c : Dev nD) : sProp 𝕄 :=
  iprop((dutyTok ER (bCell c) 0 0 ∗ dutyTok ER (bCell c) 0 1 ∗ dutyTok ER (bCell c) 0 2)
    ∗ (bigSepL oL fun o => dutyTok ER (tCell o c) 0 0) ∗ (bigSepL ksqL fun p => dutyTok ER (rCell p.1 p.2.1 p.2.2 c) 0 0)
    ∗ (bigSepL ksqL fun p => dutyTok ER (sCell p.1 p.2.1 p.2.2 c) 0 0))
theorem toks_own (c : Dev nD) : (toks c : sProp 𝕄) ⊢ ownToks c := by
  have h : (toks c : sProp 𝕄) = _ := cells_list fun sm => bigSep Finset.univ fun d : Fin 3 => (dutyTok ER ((c : Thread nD τ), sm) 0 d : sProp 𝕄)
  rw [h, fin3]
  unfold ownToks
  exact sep_mono_right (BIClass.sep_mono (bigSepL_mono fun o _ => tok_zero _) (BIClass.sep_mono (bigSepL_mono fun p _ => tok_zero _) (bigSepL_mono fun p _ => tok_zero _)))

/-- Those a device pays with. -/
def payToks (c : Dev nD) : sProp 𝕄 :=
  iprop((dutyTok ER (bCell (bTgt 0 c)) 0 0 ∗ dutyTok ER (bCell (bTgt 1 c)) 0 1 ∗ dutyTok ER (bCell (bTgt 2 c)) 0 2)
    ∗ (bigSepL oL fun o => dutyTok ER (tCell o c) 0 0) ∗ (bigSepL ksqL fun p => dutyTok ER (rCell p.1 p.2.1 p.2.2 (tgt p.1 c)) 0 0)
    ∗ (bigSepL ksqL fun p => dutyTok ER (sCell p.1 p.2.1 p.2.2 c) 0 0))

/-- The tokens dealt around the mesh. -/
theorem toks_around : (bigSep Finset.univ fun c : Dev nD => (ownToks c : sProp 𝕄)) = bigSep Finset.univ fun c : Dev nD => payToks c := by
  unfold ownToks payToks
  simp only [bigSep_sep', bigSep_list]
  have hr (p : Kd × Fin 3 × Fin 8) : (bigSep Finset.univ fun c : Dev nD => (dutyTok ER (rCell p.1 p.2.1 p.2.2 c) 0 0 : sProp 𝕄))
      = bigSep Finset.univ fun c : Dev nD => dutyTok ER (rCell p.1 p.2.1 p.2.2 (tgt p.1 c)) 0 0 := bigSep_univ_equiv (ring p.1) _
  have h0 : (bigSep Finset.univ fun c : Dev nD => (dutyTok ER (bCell c) 0 0 : sProp 𝕄)) = bigSep Finset.univ fun c : Dev nD => dutyTok ER (bCell (bTgt 0 c)) 0 0 :=
    bigSep_univ_equiv (ring .rs) _
  have h1 : (bigSep Finset.univ fun c : Dev nD => (dutyTok ER (bCell c) 0 1 : sProp 𝕄)) = bigSep Finset.univ fun c : Dev nD => dutyTok ER (bCell (bTgt 1 c)) 0 1 :=
    bigSep_univ_equiv (ring .ls) _
  have h2 : (bigSep Finset.univ fun c : Dev nD => (dutyTok ER (bCell c) 0 2 : sProp 𝕄)) = bigSep Finset.univ fun c : Dev nD => dutyTok ER (bCell (bTgt 2 c)) 0 2 :=
    bigSep_univ_equiv (ring .xr) _
  rw [h0, h1, h2, funext hr]

/-! ## What the launch credits -/

/-- What an owed item is owed to: the device and the purpose. -/
def oweDev : Owe → Dev nD → Dev nD | .b d, c => bTgt d c | .r k _ _, c => tgt k c
def oweCK : Owe → CK | .b _ => .bar | .r k s q => .rcv k s q
theorem oweCK_no (o : Owe) : oweCK o ≠ .no := by cases o <;> exact fun h => by cases h

theorem oweCell_eq (o : Owe) (d : Dev nD) : oweCell o d = ((oweDev o d : Thread nD τ), semOf (oweCK o)) := by cases o <;> rfl

theorem oweT_at (o : Owe) (d c : Dev nD) (κ : CK) (hκ : κ ≠ .no) : oweT o d ((c : Thread nD τ), semOf κ) ()
    = if oweCK o = κ then (if c = oweDev o d ∧ oweIf o d = true then oweAmt o d else 0) else 0 := by
  unfold oweT
  have hz : (0 : CellTallies nD τ sig Unit) ((c : Thread nD τ), semOf κ) () = 0 := rfl
  have he : ((c : Thread nD τ), semOf κ) = oweCell o d ↔ oweCK o = κ ∧ c = oweDev o d := by
    rw [oweCell_eq]
    constructor
    · intro h
      refine ⟨?_, congrArg (fun g : GSem nD τ sig => g.1.1) h⟩
      have := congrArg (fun g : GSem nD τ sig => ck g.2) h
      have h2 : ck (semOf κ) = ck (semOf (oweCK o)) := this
      rw [ck_semOf κ hκ, ck_semOf _ (oweCK_no o)] at h2
      exact h2.symm
    · rintro ⟨rfl, rfl⟩; rfl
  by_cases hi : oweIf o d = true
  · rw [if_pos hi, tallyAt_apply]
    by_cases h1 : oweCK o = κ
    · rw [if_pos h1]
      by_cases h2 : c = oweDev o d
      · rw [if_pos ⟨he.mpr ⟨h1, h2⟩, rfl⟩, if_pos ⟨h2, hi⟩]
      · rw [if_neg fun h => h2 (he.mp h.1).2, if_neg fun h => h2 h.1]
    · rw [if_neg fun h => h1 (he.mp h.1).1, if_neg h1]
  · rw [if_neg hi, hz]
    split
    · rw [if_neg fun h => hi h.2]
    · rfl

/-- Only the items owed to a purpose count at its cells. -/
theorem oweSum_at (ow : List Owe) (d c : Dev nD) (κ : CK) (hκ : κ ≠ .no) : oweSum ow d ((c : Thread nD τ), semOf κ) ()
    = oweSum (ow.filter fun o => oweCK o = κ) d ((c : Thread nD τ), semOf κ) () := by
  induction ow with
  | nil => rfl
  | cons o os ih =>
    show oweSum os d ((c : Thread nD τ), semOf κ) () + oweT o d ((c : Thread nD τ), semOf κ) () = _
    by_cases h : oweCK o = κ
    · rw [List.filter_cons_of_pos (by simpa using h), ih]; rfl
    · rw [List.filter_cons_of_neg (by simpa using h), ih, oweT_at o d c κ hκ, if_neg h, Nat.add_zero]

theorem owed_rcv : ∀ p ∈ ksqL, (owed.filter fun o => oweCK o = .rcv p.1 p.2.1 p.2.2) = [.r p.1 p.2.1 p.2.2] := by decide +kernel
theorem owed_bar : (owed.filter fun o => oweCK o = .bar) = [.b 0, .b 1, .b 2] := by decide +kernel

theorem sum_rcv (p : Kd × Fin 3 × Fin 8) (hp : p ∈ ksqL) (c : Dev nD) :
    ∑ d : Dev nD, oweSum owed d (rCell p.1 p.2.1 p.2.2 c) () = if vR p.1 p.2.1 c then NP else 0 := by
  have h (d : Dev nD) : oweSum owed d (rCell p.1 p.2.1 p.2.2 c) () = if d = frm p.1 c then (if vR p.1 p.2.1 c then NP else 0) else 0 := by
    refine (oweSum_at owed d c (.rcv p.1 p.2.1 p.2.2) (fun h => by cases h)).trans ?_
    rw [owed_rcv p hp]
    refine (show _ = 0 + oweT (.r p.1 p.2.1 p.2.2) d ((c : Thread nD τ), semOf (.rcv p.1 p.2.1 p.2.2)) () from rfl).trans ?_
    rw [Nat.zero_add, oweT_at _ d c _ (fun h => by cases h), if_pos (show oweCK (.r p.1 p.2.1 p.2.2) = .rcv p.1 p.2.1 p.2.2 from rfl)]
    show (if c = tgt p.1 d ∧ vS p.1 p.2.1 d = true then NP else 0) = _
    by_cases hd : d = frm p.1 c
    · subst hd
      rw [if_pos rfl, tgt_frm, vS_frm]
      by_cases hv : vR p.1 p.2.1 c = true
      · rw [if_pos ⟨rfl, hv⟩, if_pos hv]
      · rw [if_neg fun h => hv h.2, if_neg hv]
    · rw [if_neg hd, if_neg fun h => hd (by rw [h.1, frm_tgt])]
  rw [Finset.sum_congr rfl fun d _ => h d, Finset.sum_ite_eq' Finset.univ (frm p.1 c), if_pos (Finset.mem_univ _)]

/-- Whose barrier signals come. -/
def bFrm : Fin 3 → Dev nD → Dev nD | 0, c => frm .rs c | 1, c => frm .ls c | 2, c => peer c
theorem bTgt_bFrm (j : Fin 3) (c : Dev nD) : bTgt j (bFrm j c) = c := by revert j c; decide +kernel
theorem bFrm_bTgt (j : Fin 3) (c : Dev nD) : bFrm j (bTgt j c) = c := by revert j c; decide +kernel
theorem bar_three (c : Dev nD) : (if vB 0 c then 1 else 0) + (if vB 1 c then 1 else 0) + (if vB 2 c then amtP c else 0) = 3 := by revert c; decide +kernel

theorem sum_bar (c : Dev nD) : ∑ d : Dev nD, oweSum owed d (bCell c) () = 3 := by
  have h1 (j : Fin 3) (d : Dev nD) : oweT (.b j) d (bCell c) () = if d = bFrm j c then (if vB j c then amountOf .bar c j else 0) else 0 := by
    refine (oweT_at (.b j) d c .bar (fun h => by cases h)).trans ?_
    rw [if_pos (show oweCK (.b j) = .bar from rfl)]
    show (if c = bTgt j d ∧ vB j (bTgt j d) = true then amountOf .bar (bTgt j d) j else 0) = _
    by_cases hd : d = bFrm j c
    · subst hd
      rw [if_pos rfl, bTgt_bFrm]
      by_cases hv : vB j c = true
      · rw [if_pos ⟨rfl, hv⟩, if_pos hv]
      · rw [if_neg fun h => hv h.2, if_neg hv]
    · rw [if_neg hd, if_neg fun h => hd (by rw [h.1, bFrm_bTgt])]
  have h (d : Dev nD) : oweSum owed d (bCell c) () = oweT (.b 2) d (bCell c) () + oweT (.b 1) d (bCell c) () + oweT (.b 0) d (bCell c) () := by
    refine (oweSum_at owed d c .bar (fun h => by cases h)).trans ?_
    rw [owed_bar]
    show 0 + oweT (.b 2) d (bCell c) () + oweT (.b 1) d (bCell c) () + oweT (.b 0) d (bCell c) () = _
    rw [Nat.zero_add]
  have h2 (j : Fin 3) : ∑ d : Dev nD, oweT (.b j) d (bCell c) () = if vB j c then amountOf .bar c j else 0 := by
    rw [Finset.sum_congr rfl fun d _ => h1 j d, Finset.sum_ite_eq' Finset.univ (bFrm j c), if_pos (Finset.mem_univ _)]
  rw [Finset.sum_congr rfl fun d _ => h d, Finset.sum_add_distrib, Finset.sum_add_distrib, h2, h2, h2]
  have h3 := bar_three c
  show (if vB 2 c then amtP c else 0) + (if vB 1 c then 1 else 0) + (if vB 0 c then 1 else 0) = 3
  omega

/-- What a device owes at the start. -/
def O₀ (c : Dev nD) : CellTallies nD τ sig Unit := oweSum owed c

theorem launch_at (g : GSem nD τ sig) (n : ℕ) (h : ∑ d : Dev nD, oweSum owed d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]
  exact h

theorem cred_rcv (p : Kd × Fin 3 × Fin 8) (hp : p ∈ ksqL) (c : Dev nD) :
    (cred (tallyOn (rCell p.1 p.2.1 p.2.2 c) (launchCredit (Pipeline.owing O₀) 0 (rCell p.1 p.2.1 p.2.2 c))) : sProp 𝕄)
      ⊢ onlyIf (vR p.1 p.2.1 c) (cred (tallyAt (rCell p.1 p.2.1 p.2.2 c) () NP)) := by
  rw [launch_at _ _ (sum_rcv p hp c)]
  by_cases h : vR p.1 p.2.1 c = true
  · rw [onlyIf_true h, if_pos h]
  · rw [onlyIf_false h]; iintro -; iempintro

/-- Three at the barrier, and a piece at each receiving side. -/
theorem creds (c : Dev nD) : (Pipeline.launchCred O₀ c : sProp 𝕄)
    ⊢ iprop(cred (tallyAt (bCell c) () 3) ∗ (bigSepL ksqL fun p => onlyIf (vR p.1 p.2.1 c) (cred (tallyAt (rCell p.1 p.2.1 p.2.2 c) () NP)))) := by
  have h0 : (Pipeline.launchCred O₀ c : sProp 𝕄) ⊢ bigSep Finset.univ fun i : Fin 206 =>
      cred (tallyOn ((c : Thread nD τ), csem i) (launchCredit (Pipeline.owing O₀) 0 ((c : Thread nD τ), csem i))) := by
    unfold Pipeline.launchCred
    have h := bigSep_subset (Finset.subset_univ (Finset.univ.map ⟨csem, csem_injective⟩))
      (Φ := fun sm : SemLoc sig => (cred (tallyOn ((c : Thread nD τ), sm) (launchCredit (Pipeline.owing O₀) 0 ((c : Thread nD τ), sm))) : sProp 𝕄))
    rw [bigSep_map] at h
    exact h
  refine h0.trans ?_
  rw [cells_list fun sm => (cred (tallyOn ((c : Thread nD τ), sm) (launchCredit (Pipeline.owing O₀) 0 ((c : Thread nD τ), sm))) : sProp 𝕄),
    launch_at (bCell c) 3 (sum_bar c)]
  iintro ⟨Hb, -, Hr, -⟩
  isplitl [Hb]; · iexact Hb
  have h := bigSepL_mono (l := ksqL) fun p hp => cred_rcv (F := F) p hp c
  iapply h
  iexact Hr

end Cert.KernelIdeal.AG
-- ==== Proof.Ends.lean ====
module

public import proofs.«01_k».proof.Proof.Cells
public import Idealize.ShloMosaic.Lib.Rounds.Family

/-! From what a device holds at the start to what the run begins with, and from what the run leaves to what a device holds
at the end: whole buffers, the result, every semaphore at zero. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → (cc0_stg0_0 : Ref sig .tc).ty.Contents (Elt F))

/-! ## Places -/

/-- A device's places at its cells, before anything. -/
def places (c : Dev nD) : sProp 𝕄 := bigSep Finset.univ fun i : Fin 206 => atPos ER (kcell (c, i)) 0 ∅ 0
/-- The round a cell is left at. -/
def lastOf (c : Dev nD) (sm : SemLoc sig) : ℕ := rnd true (valid (ck sm) c)

theorem places_toks (c : Dev nD) : (places c : sProp 𝕄) = iprop(I X c (.aB false) ∗ (bigSepL oL fun o => I X c (.aT false o))
    ∗ (bigSepL ksqL fun p => I X c (.aR false p.1 p.2.1 p.2.2)) ∗ (bigSepL ksqL fun p => I X c (.aS false p.1 p.2.1 p.2.2))) := by
  have h : (places c : sProp 𝕄) = _ := cells_list fun sm => (atPos ER ((c : Thread nD τ), sm) 0 ∅ 0 : sProp 𝕄)
  rw [h]; rfl

theorem toks_places (c : Dev nD) : iprop(I X c (.aB true) ∗ (bigSepL oL fun o => I X c (.aT true o))
    ∗ (bigSepL ksqL fun p => I X c (.aR true p.1 p.2.1 p.2.2)) ∗ (bigSepL ksqL fun p => I X c (.aS true p.1 p.2.1 p.2.2)))
    = (bigSep Finset.univ fun i : Fin 206 => (atPos ER (kcell (c, i)) (lastOf c (csem i)) ∅ 0 : sProp 𝕄)) := by
  have h : (bigSep Finset.univ fun i : Fin 206 => (atPos ER (kcell (c, i)) (lastOf c (csem i)) ∅ 0 : sProp 𝕄)) = _ :=
    cells_list fun sm => (atPos ER ((c : Thread nD τ), sm) (lastOf c sm) ∅ 0 : sProp 𝕄)
  rw [h]
  unfold lastOf
  simp only [ck_bar, ck_snd, ck_rcv, ck_st]
  rfl

theorem last_none (c : Dev nD) (i : Fin 206) (r : ℕ) (hr : lastOf c (csem i) ≤ r) : (Rd X).duties (kcell (c, i)) r = ∅ := by
  rcases Nat.eq_zero_or_pos r with h0 | h0
  · have hv : ¬ valid (ck (csem i)) c = true := fun hv => by
      unfold lastOf rnd at hr
      rw [hv] at hr
      have : (1 : ℕ) ≤ r := hr
      omega
    exact duties_invalid X rfl c (fun hb => hv (by rw [hb]; rfl)) hv r
  · exact duties_later X _ r h0

/-- All the cells close, with nothing in them. -/
theorem close_all (K : Dev nD × Fin 206 → ℕ) (c : Dev nD) :
    iprop(ctx X K ∗ (bigSep Finset.univ fun i : Fin 206 => (atPos ER (kcell (c, i)) (lastOf c (csem i)) ∅ 0 : sProp 𝕄)))
      ⊢ |={Set.univ}=> bigSep Finset.univ fun i : Fin 206 => (semVal (kcell (c, i)) 0 : sProp 𝕄) := by
  have hinv (i : Fin 206) : ctx X K ⊢ cellInv ER (Rd X) (K (c, i)) (kcell (c, i)) := by
    unfold ctx records
    iintro ⟨⟨H, -⟩, -⟩
    iapply (inv_at X K (c, i)); iexact H
  have hall : iprop(ctx X K ∗ (bigSep Finset.univ fun i : Fin 206 => (atPos ER (kcell (c, i)) (lastOf c (csem i)) ∅ 0 : sProp 𝕄)))
      ⊢ bigSep Finset.univ fun i : Fin 206 => iprop(cellInv ER (Rd X) (K (c, i)) (kcell (c, i)) ∗ atPos ER (kcell (c, i)) (lastOf c (csem i)) ∅ 0) := by
    rw [bigSep_sep']
    have h : ctx X K ⊢ bigSep Finset.univ fun i : Fin 206 => cellInv ER (Rd X) (K (c, i)) (kcell (c, i)) :=
      bigSep_intro_persistent fun i _ => hinv i
    iintro ⟨H, Ha⟩
    isplitl [H]; · iapply h; iexact H
    iexact Ha
  exact hall.trans (cells_close ER (Rd X) Finset.univ (fun i : Fin 206 => kcell (c, i)) (fun i => K (c, i)) (fun _ _ => Set.mem_univ _)
    (fun _ _ h => h) (fun i => lastOf c (csem i)) fun i _ r hr => last_none X c i r hr)

/-! ## Buffers -/

/-- The pieces nothing lands in. -/
def keep (k : Kd) (c : Dev nD) : sProp 𝕄 := bigSepL sqL fun p => onlyIf (!vR k p.1 c) (pcAny k p.1 p.2 c)
/-- The pieces something lands in. -/
def give (k : Kd) (c : Dev nD) : sProp 𝕄 := bigSepL sqL fun p => onlyIf (vR k p.1 c) (pcAny k p.1 p.2 c)

theorem part (b : Bool) (P : sProp 𝕄) : P = iprop(onlyIf b P ∗ onlyIf (!b) P) := by
  cases b
  · exact (empS P).symm
  · exact (sepE P).symm
theorem give_keep (k : Kd) (c : Dev nD) : (bigSepL sqL fun p => pcAny (F := F) k p.1 p.2 c) = iprop(give k c ∗ keep k c) := by
  unfold give keep
  rw [← bigSepL_both]
  exact congrArg (bigSepL sqL) (funext fun p => part (vR k p.1 c) _)
theorem buf_give (k : Kd) (c : Dev nD) : iprop(∃ f, bufPts (F := F) k c f) ⊢ iprop(give k c ∗ keep k c) := by
  rw [← give_keep]
  iintro ⟨%f, H⟩
  iapply (pieces_any k c f); iexact H
include X in
theorem give_buf (k : Kd) (c : Dev nD) : iprop(give k c ∗ keep k c) ⊢ iprop(∃ f, bufPts (F := F) k c f) := by
  rw [← give_keep]; exact pieces_join X k c

theorem lands_give (k : Kd) (c : Dev nD) : (lands k (frm k c) : sProp 𝕄) = give k c := by
  unfold lands land give
  refine congrArg (bigSepL sqL) (funext fun p => ?_)
  rw [vS_frm, tgt_frm]

theorem gv_zero (c : Dev nD) : I X c (.gv 0) = give .ls c := lands_give .ls c
theorem gv_one (c : Dev nD) : I X c (.gv 1) = give .rs c := lands_give .rs c
theorem gv_two (c : Dev nD) : I X c (.gv 2) = iprop(give .xr c ∗ give .xl c) :=
  congrArg₂ (fun P Q : sProp 𝕄 => iprop(P ∗ Q)) (lands_give .xr c) (lands_give .xl c)

theorem out_give (c : Dev nD) : iprop(∃ f, outAll (F := F) c f) ⊢ bigSepL oL fun o => I X c (.out o) := by
  iintro ⟨%f, H⟩
  have h : (outAll c f : sProp 𝕄) ⊢ bigSepL oL fun o => I X c (.out o) := by
    rw [out_cut]; exact bigSepL_mono fun o _ => outAny_of c o f
  iapply h; iexact H

/-- All that is kept aside. -/
def keeps (c : Dev nD) : sProp 𝕄 := iprop((keep .rs c ∗ keep .ls c) ∗ keep .xr c ∗ keep .xl c)
/-- The four receive buffers. -/
def bufs (c : Dev nD) : sProp 𝕄 := iprop((∃ f, bufPts (F := F) .rs c f) ∗ (∃ f, bufPts (F := F) .ls c f) ∗ (∃ f, bufPts (F := F) .xr c f) ∗ (∃ f, bufPts (F := F) .xl c f))
/-- The buffer of one's own half block. -/
def ownBuf (c : Dev nD) : sProp 𝕄 := iprop(∃ f : Buf (Elt F) ((ownM).view.loc (c : Thread nD τ)), ownAll c fullShare f)
/-- The credits. -/
def credToks (c : Dev nD) : sProp 𝕄 :=
  iprop(cred (tallyAt (bCell c) () 3) ∗ (bigSepL ksqL fun p => onlyIf (vR p.1 p.2.1 c) (cred (tallyAt (rCell p.1 p.2.1 p.2.2 c) () NP))))

theorem tC_list (c : Dev nD) : (bigSepL ksqL fun p => I X c (.tC p.1 p.2.1 p.2.2))
    = iprop((bigSepL ksqL fun p => dutyTok ER (sCell p.1 p.2.1 p.2.2 c) 0 0) ∗ (bigSepL ksqL fun p => dutyTok ER (rCell p.1 p.2.1 p.2.2 (tgt p.1 c)) 0 0)) :=
  bigSepL_both ksqL (fun p => (dutyTok ER (sCell p.1 p.2.1 p.2.2 c) 0 0 : sProp 𝕄)) (fun p => dutyTok ER (rCell p.1 p.2.1 p.2.2 (tgt p.1 c)) 0 0)

theorem startToks_eq : startToks = [.inp, .ownB, .aB false, .cB] ++ ([.tB 0, .tB 1, .tB 2] ++ ([.gv 0, .gv 1, .gv 2]
    ++ ((oL.map fun o => .out o) ++ ((oL.map fun o => .tT o) ++ ((oL.map fun o => .aT false o)
    ++ ((ksqL.map fun p => .tC p.1 p.2.1 p.2.2) ++ ((ksqL.map fun p => .cR p.1 p.2.1 p.2.2)
    ++ ((ksqL.map fun p => .aR false p.1 p.2.1 p.2.2) ++ (ksqL.map fun p => .aS false p.1 p.2.1 p.2.2))))))))) := by
  unfold startToks
  simp only [List.append_assoc]
  rfl

theorem start_toks (c : Dev nD) : iprop(inPts X c ∗ ownBuf c ∗ (∃ f, outAll (F := F) c f) ∗ bufs c ∗ payToks c ∗ places c ∗ credToks c)
    ⊢ iprop(TT X c startToks ∗ keeps c) := by
  rw [startToks_eq]
  have hi : I X c .inp = inPts X c := rfl
  have ho : I X c .ownB = ownBuf c := rfl
  have hc : I X c .cB = cred (tallyAt (bCell c) () 3) := rfl
  have hb (d : Fin 3) : I X c (.tB d) = dutyTok ER (bCell (bTgt d c)) 0 d := rfl
  simp only [TT_append, TT_map, TT_cons, TT_nil, gv_zero, gv_one, gv_two, tC_list, hi, ho, hc, hb]
  rw [places_toks X]
  unfold bufs payToks keeps credToks
  iintro ⟨Hi, Ho, Hout, ⟨H1, H2, H3, H4⟩, ⟨⟨Hb0, Hb1, Hb2⟩, Ht, Hr, Hs⟩, ⟨HaB, HaT, HaR, HaS⟩, ⟨HcB, HcR⟩⟩
  ihave G1 := (buf_give (F := F) .rs c) $$ [H1]
  · iexact H1
  ihave G2 := (buf_give (F := F) .ls c) $$ [H2]
  · iexact H2
  ihave G3 := (buf_give (F := F) .xr c) $$ [H3]
  · iexact H3
  ihave G4 := (buf_give (F := F) .xl c) $$ [H4]
  · iexact H4
  icases G1 with ⟨G1, K1⟩
  icases G2 with ⟨G2, K2⟩
  icases G3 with ⟨G3, K3⟩
  icases G4 with ⟨G4, K4⟩
  isplitr [K1 K2 K3 K4]
  · isplitl [Hi Ho HaB HcB]
    · isplitl [Hi]; · iexact Hi
      isplitl [Ho]; · iexact Ho
      isplitl [HaB]; · iexact HaB
      isplitl [HcB]; · iexact HcB
      iempintro
    isplitl [Hb0 Hb1 Hb2]
    · isplitl [Hb0]; · iexact Hb0
      isplitl [Hb1]; · iexact Hb1
      isplitl [Hb2]; · iexact Hb2
      iempintro
    isplitl [G1 G2 G3 G4]
    · isplitl [G2]; · iexact G2
      isplitl [G1]; · iexact G1
      isplitl [G3 G4]
      · isplitl [G3]; · iexact G3
        iexact G4
      iempintro
    isplitl [Hout]; · iapply (out_give X c); iexact Hout
    isplitl [Ht]; · iexact Ht
    isplitl [HaT]; · iexact HaT
    isplitl [Hr Hs]
    · isplitl [Hs]; · iexact Hs
      iexact Hr
    isplitl [HcR]; · iexact HcR
    isplitl [HaR]; · iexact HaR
    iexact HaS
  · isplitl [K1 K2]
    · isplitl [K1]; · iexact K1
      iexact K2
    isplitl [K3]; · iexact K3
    iexact K4

/-! ## The end -/

/-- The sources and leftovers by the buffers they are parts of. -/
def srcToks : List Tok := (ksqL.map fun p => .src p.1 p.2.1 p.2.2) ++ ((qs.map fun q => .lo false q) ++ (qs.map fun q => .lo true q))
def srcToks' : List Tok := (qs.map fun q => .src .rs 0 q) ++ ((qs.map fun q => .src .ls 0 q) ++ ((sqL.map fun p => nxtTok false p.1 p.2)
  ++ ((sqL.map fun p => nxtTok true p.1 p.2) ++ ((sqL.map fun p => .src (kX false) p.1 p.2) ++ (sqL.map fun p => .src (kX true) p.1 p.2)))))
theorem srcToks_take : takeAll (codes srcToks') (codes srcToks) = some [] := by decide +kernel
theorem srcToks_perm (c : Dev nD) : TT X c srcToks = TT X c srcToks' := by
  rw [← TN_codes, TN_takeAll X c srcToks_take, TN_codes]; exact sepE _

theorem endToks_eq : endToks = [.aB true] ++ ((oL.map fun o => .dn o) ++ ((oL.map fun o => .aT true o)
    ++ ((ksqL.map fun p => .aR true p.1 p.2.1 p.2.2) ++ ((ksqL.map fun p => .aS true p.1 p.2.1 p.2.2) ++ srcToks)))) := by
  unfold endToks srcToks
  simp only [List.append_assoc]

/-- What the stores hand back: the rows of the result, the input, the slots. -/
theorem both_if (b : Bool) (P Q : sProp 𝕄) : onlyIf b iprop(P ∗ Q) = iprop(onlyIf b P ∗ onlyIf b Q) := by
  cases b
  · exact (sepE _).symm
  · rfl
theorem if_list {J : Type} (b : Bool) (l : List J) (Φ : J → sProp 𝕄) : onlyIf b (bigSepL l Φ) = bigSepL l fun j => onlyIf b (Φ j) := by
  cases b
  · refine Eq.trans (?_ : (iprop(emp) : sProp 𝕄) = bigSepL l fun _ => iprop(emp)) rfl
    induction l with
    | nil => rfl
    | cons a l ih => rw [bigSepL_cons', ← ih]; exact (sepE _).symm
  · rfl
theorem list_flat {J J' : Type} (l : List J) (f : J → List J') (Φ : J' → sProp 𝕄) : bigSepL (l.flatMap f) Φ = bigSepL l fun j => bigSepL (f j) Φ := by
  induction l with
  | nil => rfl
  | cons a l ih => rw [List.flatMap_cons, bigSepL_append, bigSepL_cons', ih]

/-- The stores' shares of a family's received pieces. -/
def stps (k : Kd) (c : Dev nD) : sProp 𝕄 := bigSepL sqL fun p => onlyIf (vR k p.1 c) (pcPts X k p.1 p.2 c (shT k))
theorem stps_slots (k : Kd) (c : Dev nD) : (bigSepL ss fun s => onlyIf (vR k s c) (slotPts X k s c (shT k))) = stps X k c := by
  unfold stps sqL
  rw [list_flat]
  refine congrArg (bigSepL ss) (funext fun s => ?_)
  rw [slot_pieces, if_list, bigSepL_map]

theorem dn_list (c : Dev nD) : (bigSepL oL fun o => I X c (.dn o)) ⊢ iprop(outAll c (OV X c) ∗ inPts X c ∗ stps X .rs c ∗ stps X .ls c ∗ stps X .xr c ∗ stps X .xl c) := by
  have h1 : (bigSepL oL fun o => I X c (.dn o)) = iprop((bigSepL oL fun o => onlyIf (vT o c) (outPts X o c)) ∗ (bigSepL oL fun o => onlyIf (vT o c) (stSrc X o c))) := by
    rw [← bigSepL_both]
    exact congrArg (bigSepL oL) (funext fun o => both_if (vT o c) _ _)
  have h2 : (bigSepL oL fun o => onlyIf (vT o c) (stSrc X o c)) = iprop(inPts X c ∗ stps X .rs c ∗ stps X .ls c ∗ stps X .xr c ∗ stps X .xl c) := by
    have hnil (Φ : Kd → sProp 𝕄) : bigSepL [] Φ = iprop(emp) := rfl
    unfold oL kds
    rw [bigSepL_cons', list_flat, bigSepL_cons', bigSepL_cons', bigSepL_cons', bigSepL_cons', hnil, sepE]
    simp only [bigSepL_map]
    rw [← stps_slots, ← stps_slots, ← stps_slots, ← stps_slots]
    rfl
  have h3 : (bigSepL oL fun o => onlyIf (vT o c) (outPts X o c)) ⊢ outAll c (OV X c) := by
    rw [out_cut]; exact bigSepL_mono fun o _ => outPts_to X c o
  rw [h1, h2]
  iintro ⟨Ha, Hb⟩
  isplitl [Ha]; · iapply h3; iexact Ha
  iexact Hb

theorem pc_any (k : Kd) (s : Fin 3) (q : Fin 8) (c : Dev nD) : (pcPts X k s q c fullShare : sProp 𝕄) ⊢ pcAny k s q c := by
  unfold pcAny pcPts
  iintro H
  iexists _; iexact H

theorem if_mono (b : Bool) {P Q : sProp 𝕄} (h : P ⊢ Q) : onlyIf b P ⊢ onlyIf b Q := by
  cases b
  · exact Entails.rfl
  · exact h

/-- The shares of the chain's pieces together again; -/
theorem give_Y (l : Bool) (c : Dev nD) : iprop((bigSepL sqL fun p => I X c (nxtTok l p.1 p.2)) ∗ (bigSepL sqL fun p => I X c (.src (kX l) p.1 p.2)) ∗ stps X (kY l) c)
    ⊢ give (kY l) c := by
  unfold stps give
  rw [← bigSepL_both, ← bigSepL_both]
  refine bigSepL_mono fun p _ => ?_
  rw [nxt_eq, srcX_eq, ← both_if, ← both_if]
  refine if_mono _ ?_
  have h : shT (kY l) = fullShare.right.right := by cases l <;> rfl
  rw [h, ← pc_split]
  exact pc_any X (kY l) p.1 p.2 c
/-- and the relayed ones. -/
theorem give_X (l : Bool) (c : Dev nD) : stps X (kX l) c ⊢ give (kX l) c := by
  unfold stps give
  refine bigSepL_mono fun p _ => if_mono _ ?_
  rw [shT_kX]
  exact pc_any X (kX l) p.1 p.2 c

theorem end_toks (K : Dev nD × Fin 206 → ℕ) (c : Dev nD) : iprop(ctx X K ∗ TT X c endToks ∗ keeps c)
    ⊢ |={Set.univ}=> iprop(inPts X c ∗ outAll c (OV X c) ∗ ownBuf c ∗ bufs c ∗ (bigSep Finset.univ fun i : Fin 206 => (semVal (kcell (c, i)) 0 : sProp 𝕄))) := by
  rw [endToks_eq]
  simp only [TT_append, TT_map, TT_cons, TT_nil, sepE]
  rw [srcToks_perm]
  unfold srcToks'
  simp only [TT_append, TT_map]
  unfold keeps bufs
  iintro ⟨Hc, ⟨HaB, Hdn, HaT, HaR, HaS, Hs1, Hs2, Hn1, Hn2, Hx1, Hx2⟩, ⟨K1, K2⟩, K3, K4⟩
  ihave Hd := (dn_list X c) $$ [Hdn]
  · iexact Hdn
  icases Hd with ⟨Hout, Hin, S1, S2, S3, S4⟩
  imod (close_all X K c) $$ [Hc HaB HaT HaR HaS] with Hz
  · isplitl [Hc]; · iexact Hc
    iapply (Entails.of_eq (toks_places X c))
    isplitl [HaB]; · iexact HaB
    isplitl [HaT]; · iexact HaT
    isplitl [HaR]; · iexact HaR
    iexact HaS
  imodintro
  isplitl [Hin]; · iexact Hin
  isplitl [Hout]; · iexact Hout
  isplitl [Hs1 Hs2]
  · unfold ownBuf
    iexists (OWN X c)
    iapply (Entails.of_eq (srcs_own X c).symm)
    isplitl [Hs1]; · iexact Hs1
    iexact Hs2
  isplitr [Hz]
  · isplitl [Hn1 Hx1 S1 K1]
    · iapply (give_buf X .rs c)
      isplitr [K1]
      · iapply (give_Y X false c)
        isplitl [Hn1]; · iexact Hn1
        isplitl [Hx1]; · iexact Hx1
        iexact S1
      iexact K1
    isplitl [Hn2 Hx2 S2 K2]
    · iapply (give_buf X .ls c)
      isplitr [K2]
      · iapply (give_Y X true c)
        isplitl [Hn2]; · iexact Hn2
        isplitl [Hx2]; · iexact Hx2
        iexact S2
      iexact K2
    isplitl [S3 K3]
    · iapply (give_buf X .xr c)
      isplitl [S3]; · iapply (give_X X false c); iexact S3
      iexact K3
    · iapply (give_buf X .xl c)
      isplitl [S4]; · iapply (give_X X true c); iexact S4
      iexact K4
  iexact Hz

end Cert.KernelIdeal.AG
-- ==== Proof.Steps.lean ====
module

public import proofs.«01_k».proof.Proof.Ops

/-! The printed body IS the list of operations. -/

@[expose] public section

set_option maxRecDepth 65536

noncomputable section

namespace Cert.KernelIdeal.AG

open Idealize.ShloMosaic Idealize.ShloMosaic.TcCoe
open Idealize.SL.Sem
open Cert.KernelIdeal.Gen

variable {F : FTy → Type} [FloatOps F]

/-- A program that asks for its device first and then makes the operations. -/
theorem Steps.dev {α : Type} {P : Dev nD → PF F α} {os : List Op} {v : α} (h : ∀ d, Steps d (P d) os [] v) :
    (Prog.op .deviceId P : PF F α) = Prog.op .deviceId fun d => runs os d (Pure.pure v) :=
  congrArg (Prog.op TpuEff.deviceId) (funext fun d => by
    have := h d (K := Pure.pure) (Pure.pure v) rfl
    rwa [Prog.bind_pure] at this)

/-- The list of operations, written out. -/
theorem allOps_eq : ∃ os, os = allOps := ⟨_, rfl⟩

set_option maxHeartbeats 20000000 in
/-- The body asks for its device and makes the operations. -/
theorem body_eq : cc0_body (F := F) inM (Memref.isWhole_whole _) outM (Memref.isWhole_whole _) ownM (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 cc0_scratch11 cc0_scratch12 cc0_scratch13
    = Prog.op .deviceId fun d => runs allOps d (Pure.pure ⟨⟩) := by
  obtain ⟨os, hos⟩ := allOps_eq
  rw [← hos]
  simp only [allOps, eachQ, hop0, hopA, hopZ, hopW, List.cons_append, List.nil_append, List.append_assoc] at hos
  subst hos
  apply Steps.dev
  intro d
  apply Steps.bind
  · apply Steps.bind
    · iterate 2 (apply Steps.op; exact rfl)
      exact Steps.pure
    iterate 1
      apply Steps.bind
      · iterate 7 (apply Steps.op; exact rfl)
        exact Steps.pure
    iterate 1
      apply Steps.bind
      · iterate 5 (apply Steps.op; exact rfl)
        exact Steps.pure
    iterate 1
      apply Steps.bind
      · iterate 6 (apply Steps.op; exact rfl)
        exact Steps.pure
    iterate 1
      apply Steps.bind
      · iterate 2 (apply Steps.op; exact rfl)
        exact Steps.pure
    iterate 1
      apply Steps.bind
      · iterate 1 (apply Steps.op; exact rfl)
        exact Steps.pure
    iterate 3
      apply Steps.bind
      · iterate 5 (apply Steps.op; exact rfl)
        exact Steps.pure
    iterate 1
      apply Steps.bind
      · iterate 6 (apply Steps.op; exact rfl)
        exact Steps.pure
    iterate 5
      apply Steps.bind
      · iterate 5 (apply Steps.op; exact rfl)
        exact Steps.pure
    iterate 1
      apply Steps.bind
      · iterate 6 (apply Steps.op; exact rfl)
        exact Steps.pure
    iterate 2
      apply Steps.bind
      · iterate 5 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 4
      apply Steps.bind
      · iterate 5 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 6
      apply Steps.bind
      · iterate 5 (apply Steps.op; exact rfl)
        exact Steps.pure
    iterate 1
      apply Steps.bind
      · iterate 2 (apply Steps.op; exact rfl)
        exact Steps.pure
    iterate 1
      apply Steps.bind
      · iterate 1 (apply Steps.op; exact rfl)
        exact Steps.pure
    iterate 1
      apply Steps.bind
      · iterate 2 (apply Steps.op; exact rfl)
        exact Steps.pure
    iterate 1
      apply Steps.bind
      · iterate 1 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 4
      apply Steps.bind
      · iterate 5 (apply Steps.op; exact rfl)
        exact Steps.pure
    iterate 1
      apply Steps.bind
      · iterate 6 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 1
      apply Steps.bind
      · iterate 4 (apply Steps.op; exact rfl)
        exact Steps.pure
    iterate 1
      apply Steps.bind
      · iterate 6 (apply Steps.op; exact rfl)
        exact Steps.pure
    iterate 1
      apply Steps.bind
      · iterate 5 (apply Steps.op; exact rfl)
        exact Steps.pure
    exact Steps.pure
  · iterate 3 (apply Steps.op; exact rfl)
    exact Steps.pure

end Cert.KernelIdeal.AG
-- ==== Proof.Launch.lean ====
module

public import proofs.«01_k».proof.Proof.Ends
public import proofs.«01_k».proof.Proof.Steps
public import Idealize.ShloMosaic.Lib.Pipeline.CollectiveSegs

/-! The launch: the kernel's body on a device against what the pipeline asks of it, the protocol's state made for all
devices at once, and the run of the whole program. -/

@[expose] public section

set_option maxRecDepth 8192

noncomputable section

namespace Cert.KernelIdeal.AG

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- What a device's input block holds at launch. -/
def xin (c : Dev nD) : (cc0_stg0_0 : Ref sig .tc).ty.Contents (Elt F) :=
  (win0_0.blk (0 : Fin 1)).view.read (Elt F) ((s₀ m ρ).mem ((c : Thread nD τ).loc main_arg0))

/-- The kernel's own semaphores. -/
abbrev osem (i : Fin 205) : SemLoc sig := .dma ⟨i.val + 2, by have := i.isLt; show i.val + 2 < 207; omega⟩

/-! ## The body -/

theorem cfg0_N : cfg0.N = 1 := by decide
def pt : Fin cfg0.N := ⟨0, by rw [cfg0_N]; decide⟩
theorem fin_N (t : Fin cfg0.N) : t = pt := by
  obtain ⟨t, ht⟩ := t; have := cfg0_N; exact Fin.ext (by simp only [pt]; omega)

/-- The protocol's state a device starts from. -/
def G' (c : Dev nD) : sProp 𝕄 := iprop(∃ K, records (xin m ρ) K ∗ payToks c ∗ places c)
def start (c : Dev nD) : sProp 𝕄 := iprop(G' m ρ c ∗ credToks c ∗ LEV)
def Φ₀ (c : Dev nD) : sProp 𝕄 := iprop(start m ρ c ∗ ownBuf c ∗ bufs c)
/-- What it leaves: its buffers, and every counter at zero. -/
def Φ₁ (c : Dev nD) : sProp 𝕄 := iprop((ownBuf c ∗ bufs c) ∗ (bigSep Finset.univ fun i : Fin 206 => (semVal (kcell (c, i)) 0 : sProp 𝕄)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => OV (xin m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer at contents `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))
def bodyPost (c : Dev nD) : sProp 𝕄 :=
  iprop(Φ₁ c ∗ (dats m ρ 0 c).owesAt () pt.succ ∗ stg c cc0_stg0_0 (xin m ρ c) ∗ stg c cc0_stg1_0 (OV (xin m ρ) c))

theorem inPts_whole (X : Dev nD → (cc0_stg0_0 : Ref sig .tc).ty.Contents (Elt F)) (c : Dev nD) :
    (inPts X c : sProp 𝕄) = (((c : Thread nD τ).loc cc0_stg0_0) ↦{fullShare} X c) := by
  unfold inPts
  exact congrArg (fun S => (((c : Thread nD τ).loc cc0_stg0_0) ↦[S]{fullShare} X c : sProp 𝕄)) (View.set_whole cc0_stg0_0)

/-- The run of a device's operations, from what the pipeline hands it to what it takes back. -/
theorem ops_run (c : Dev nD) : bodyPre m ρ c ⊢ WP c (runs allOps c (Pure.pure ⟨⟩)) (fun _ => bodyPost m ρ c) := by
  unfold bodyPre Φ₀ start G'
  iintro ⟨⟨⟨⟨%K, Hrec, Hpay, Hpl⟩, Hcr, Hlev⟩, Hown, Hbufs⟩, Ho, ⟨%d0, %g0, %hg0, Hx⟩, ⟨%d1, %g1, %hg1, Hout⟩⟩
  have hx : g0 = xin m ρ c := by rw [hg0]; unfold Dat.before; rw [if_pos (fetch_0 pt)]; rfl
  subst hx
  unfold Dat.owesAt Pipeline.owesWithin
  icases Ho with ⟨%W, %hW, HO⟩
  rw [show (dats m ρ 0 c).owed pt.castSucc = O₀ c from rfl]
  ihave #Hctx := (show iprop(records (xin m ρ) K ∗ LEV) ⊢ ctx (xin m ρ) K from Entails.rfl) $$ [Hrec Hlev]
  · isplitl [Hrec]; · iexact Hrec
    iexact Hlev
  ihave Hst := (start_toks (xin m ρ) c) $$ [Hx Hown Hout Hbufs Hpay Hpl Hcr]
  · isplitl [Hx]; · iapply (Entails.of_eq (inPts_whole (xin m ρ) c).symm); iexact Hx
    isplitl [Hown]; · iexact Hown
    isplitl [Hout]
    · have h : (((c : Thread nD τ).loc cc0_stg1_0) ↦{fullShare} g1 : sProp 𝕄) = outAll c g1 := rfl
      iexists g1; iapply (Entails.of_eq h); iexact Hout
    isplitl [Hbufs]; · iexact Hbufs
    isplitl [Hpay]; · iexact Hpay
    isplitl [Hpl]; · iexact Hpl
    iexact Hcr
  icases Hst with ⟨Ht, Hk⟩
  iapply (run_all (xin m ρ) K c (Pure.pure ⟨⟩) (fun _ => bodyPost m ρ c)) $$ [Ht HO]
  · isplitr; · iexact Hctx
    isplitl [Ht]; · iexact Ht
    unfold OW; iexists W; iexact HO
  iintro ⟨Ht, HO⟩
  rw [show (Pure.pure ⟨⟩ : PF F PUnit) = .ret ⟨⟩ from rfl]
  unfold WP
  rw [wp_ret]
  imod (end_toks (xin m ρ) K c) $$ [Ht Hk] with ⟨Hx, Hout, Hown, Hbufs, Hz⟩
  · isplitr; · iexact Hctx
    isplitl [Ht]; · iexact Ht
    iexact Hk
  imodintro
  unfold bodyPost Φ₁ Dat.owesAt Pipeline.owesWithin
  rw [show (dats m ρ 0 c).owed pt.succ = 0 from rfl]
  isplitl [Hown Hbufs Hz]
  · isplitl [Hown Hbufs]
    · isplitl [Hown]; · iexact Hown
      iexact Hbufs
    iexact Hz
  isplitl [HO]
  · unfold OW
    icases HO with ⟨%W', HO⟩
    iexists W'
    isplitr; · ipureintro; exact fun _ _ => Or.inl trivial
    have h0 : oweSum [] c = 0 := rfl
    rw [h0]
    iexact HO
  isplitl [Hx]
  · iexists _; isplitr; · (ipureintro; rfl)
    iapply (Entails.of_eq (inPts_whole (xin m ρ) c)); iexact Hx
  have h : (outAll c (OV (xin m ρ) c) : sProp 𝕄) = (((c : Thread nD τ).loc cc0_stg1_0) ↦{fullShare} (OV (xin m ρ) c)) := rfl
  iexists (OV (xin m ρ) c); isplitr; · (ipureintro; rfl)
  iapply (Entails.of_eq h); iexact Hout

/-- The kernel's body on its staging buffers is the run of its operations. -/
theorem body_at (a b : Memref sig .tc .vmem _ _) (ha : a.IsWhole) (hb : b.IsWhole) (h1 : a = inM) (h2 : b = outM) :
    cc0_body (F := F) a ha b hb ownM (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 cc0_scratch11 cc0_scratch12 cc0_scratch13
    = Prog.op .deviceId fun d => runs allOps d (Pure.pure ⟨⟩) := by
  subst h1; subst h2; exact body_eq

theorem prog_at (t : Fin cfg0.N) (s : (w : Fin cfg0.W) → Fin (cfg0.win w).nbuf) : defs₀ (F := F) .tc cfg0.body (cfg0.bodyArgs t s)
    = cc0_body (F := F) (win0_0.stage (s 0)) (hstage0_0 0) (win0_1.stage (s 1)) (hstage0_1 0) ownM (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 cc0_scratch11 cc0_scratch12 cc0_scratch13 := rfl

theorem prog_eq (t : Fin cfg0.N) (s : (w : Fin cfg0.W) → Fin (cfg0.win w).nbuf) : defs₀ (F := F) .tc cfg0.body (cfg0.bodyArgs t s)
    = Prog.op .deviceId fun d => runs allOps d (Pure.pure ⟨⟩) := (prog_at t s).trans (body_at _ _ _ _ rfl rfl)

/-- The pipeline's obligation on a device. -/
theorem body_obligation (c : Dev nD) : BodyObligation (dats (F := F) m ρ 0 c) (defs₀ (F := F)) 𝒱₀ () Set.univ := fun t => by
  rw [fin_N t, prog_eq, wp_deviceId]
  rw [bigSep_W, bigSep_W]
  simp only [owns_whole_eq]
  exact ops_run m ρ c

/-! ## The launch -/

theorem osem_injective : Function.Injective osem := fun i j h => by
  have h1 := congrArg Fin.val (SemLoc.dma.inj h)
  have h2 : i.val + 2 = j.val + 2 := h1
  exact Fin.ext (by omega)
theorem ownSemFacts : Pipeline.OwnSemFacts cfg0.spec osem := ⟨by decide +kernel, osem_injective, by decide +kernel⟩

theorem share_eq (c : Dev nD) (w : Fin cfg0.W) : (dats m ρ 0 c).share w = fullShare := by unfold Dat.share; split <;> rfl

/-- The ghost state at launch. -/
def u₀ : UU := (initOf (Pipeline.cells cfgs cellOf_inj) (Pipeline.launchToks cfgs cellOf_inj), initOf allCells allToks)

/-- What of it is each device's. -/
def G (c : Dev nD) : sProp 𝕄 :=
  iprop((bigSep Finset.univ fun i : Fin 206 => roundState ER (Rd (xin m ρ)) (kcell (c, i)) 0)
    ∗ (places c ∗ (bigSep Finset.univ fun i : Fin 206 => reached ER (kcell (c, i)) 0)) ∗ toks c)

theorem fund_all : BI.own (ER (initOf allCells allToks)) ⊢ (|==> bigSep Finset.univ (G m ρ) : sProp 𝕄) := by
  have hC (Φ : GSem nD τ sig → sProp 𝕄) : bigSep allCells Φ = bigSep Finset.univ fun c : Dev nD => bigSep Finset.univ fun i : Fin 206 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  have hG : bigSep Finset.univ (G m ρ) = iprop((bigSep Finset.univ fun c : Dev nD => bigSep Finset.univ fun i : Fin 206 => roundState ER (Rd (xin m ρ)) (kcell (c, i)) 0)
      ∗ ((bigSep Finset.univ fun c : Dev nD => places c) ∗ (bigSep Finset.univ fun c : Dev nD => bigSep Finset.univ fun i : Fin 206 => reached ER (kcell (c, i)) 0))
      ∗ bigSep Finset.univ fun c : Dev nD => toks c) := by
    rw [← bigSep_sep', ← bigSep_sep', ← bigSep_sep']; rfl
  iintro HX
  imod (Rounds.fund ER (Rd (xin m ρ)) allCells allToks) $$ HX with ⟨Hst, Hr, Hat, Htok⟩
  imodintro
  ihave Hst' := (Entails.of_eq (hC fun g => roundState ER (Rd (xin m ρ)) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  rw [hG]
  isplitl [Hst']; · iexact Hst'
  isplitl [Hat' Hr']
  · isplitl [Hat']; · iexact Hat'
    iexact Hr'
  iexact Htok'

theorem unscoped_bar (c : Dev nD) : (unscopedSems0 c : sProp 𝕄) = semVal (bCell c) 0 := by
  unfold unscopedSems0; rw [bigSep_eq_bigSepL_of_eq [SemLoc.reg barSem] (by decide) (by decide)]; rfl

/-- The barrier and the kernel's own semaphores are the protocol's. -/
theorem sems_eq (c : Dev nD) : iprop(unscopedSems0 c ∗ Pipeline.ownSems0 (Ix := Unit) (Name := ℕ) (U := UU) (Lvl := ℕ) (Val := Elt F) (τ := τ) osem c)
    = (bigSep Finset.univ fun i : Fin 206 => semVal (kcell (c, i)) 0 : sProp 𝕄) := by
  rw [unscoped_bar, Pipeline.ownSems0_eq_of_list c osem (List.finRange 205) (List.toFinset_finRange 205).symm (List.nodup_finRange 205),
    bigSep_univ_eq_bigSepL (List.finRange 206) (List.toFinset_finRange 206).symm (List.nodup_finRange 206), List.finRange_succ, bigSepL_cons', bigSepL_map]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Fin 206 => iprop(∃ κ : ℕ, cellInv ER (Rd (xin m ρ)) κ (kcell (c, i))))
          ∗ (places c ∗ (bigSep Finset.univ fun i : Fin 206 => reached ER (kcell (c, i)) 0)) ∗ toks c) := by
  have halloc : iprop((bigSep Finset.univ fun i : Fin 206 => semVal (kcell (c, i)) 0) ∗ bigSep Finset.univ fun i : Fin 206 => roundState ER (Rd (xin m ρ)) (kcell (c, i)) 0)
      ⊢ (|={Set.univ}=> bigSep Finset.univ fun i => iprop(∃ κ : ℕ, cellInv ER (Rd (xin m ρ)) κ (kcell (c, i))) : sProp 𝕄) := by
    rw [← bigSep_sep']
    exact (bigSep_mono fun i _ => (Rounds.body_intro ER (Rd (xin m ρ)) (kcell (c, i))).trans inv_alloc).trans (bigSep_fupd _ _)
  unfold G
  iintro ⟨Hos, Hus, Hst, Hat, Htok⟩
  imod halloc $$ [Hos Hus Hst] with Hinv
  · isplitr [Hst]
    · iapply (Entails.of_eq (sems_eq (F := F) c))
      isplitl [Hus]; · iexact Hus
      iexact Hos
    iexact Hst
  imodintro
  isplitl [Hinv]; · iexact Hinv
  isplitl [Hat]; · iexact Hat
  iexact Htok

theorem ghost_intro (K : Dev nD × Fin 206 → ℕ) (c : Dev nD) : iprop(records (xin m ρ) K ∗ (payToks c ∗ places c)) ⊢ G' m ρ c := by
  unfold G'
  iintro H
  iexists K
  iexact H

/-- All devices' parts together: the names agreed on, the tokens dealt. -/
theorem regroup :
    (bigSep Finset.univ fun c : Dev nD => iprop((bigSep Finset.univ fun i : Fin 206 => iprop(∃ κ : ℕ, cellInv ER (Rd (xin m ρ)) κ (kcell (c, i))))
          ∗ (places c ∗ (bigSep Finset.univ fun i : Fin 206 => reached ER (kcell (c, i)) 0)) ∗ toks c) : sProp 𝕄)
      ⊢ bigSep Finset.univ (G' m ρ) := by
  have htk : (bigSep Finset.univ fun c : Dev nD => (toks c : sProp 𝕄)) ⊢ bigSep Finset.univ fun c : Dev nD => payToks c :=
    (bigSep_mono fun c _ => toks_own c).trans (Entails.of_eq toks_around)
  rw [bigSep_sep', bigSep_sep', bigSep_sep', ← bigSep_univ_prod (fun ci : Dev nD × Fin 206 => iprop(∃ κ : ℕ, cellInv ER (Rd (xin m ρ)) κ (kcell ci))),
    ← bigSep_univ_prod (fun ci : Dev nD × Fin 206 => (reached ER (kcell ci) 0 : sProp 𝕄))]
  iintro ⟨HI, ⟨Hat, #HR⟩, Htok⟩
  ihave HK := (BI.bigSep_exists_pi Finset.univ (fun (ci : Dev nD × Fin 206) (κ : ℕ) => (cellInv ER (Rd (xin m ρ)) κ (kcell ci) : sProp 𝕄))) $$ HI
  icases HK with ⟨%K, #HI⟩
  ihave Htk := htk $$ Htok
  have hfin : iprop(records (xin m ρ) K ∗ bigSep Finset.univ fun c : Dev nD => iprop(payToks c ∗ places c)) ⊢ bigSep Finset.univ (G' m ρ) :=
    bigSep_with_persistent fun c _ => ghost_intro m ρ K c
  iapply hfin
  isplitr
  · unfold records; isplitl; · iexact HI
    iexact HR
  · rw [bigSep_sep']
    isplitl [Htk]; · iexact Htk
    iexact Hat

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hl : (levAts L lv : sProp 𝕄) ⊢ LEV := by unfold LEV; exact Entails.rfl
  have hc : (Pipeline.launchCred O₀ c : sProp 𝕄) ⊢ credToks c := by unfold credToks; exact creds c
  unfold start
  iintro ⟨-, Hlev, Hcr, -, HG⟩
  imodintro
  isplitl
  · isplitl [HG]; · iexact HG
    isplitl [Hcr]; · iapply hc; iexact Hcr
    iapply hl; iexact Hlev
  · iempintro

theorem scratch_eq (c : Dev nD) : (Pipeline.scopedRest cfg0.spec c : sProp 𝕄) = iprop(ownBuf c ∗ bufs c) := scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  rw [← sems_eq]
  iintro ⟨Hr, Hb, Hs⟩
  isplitl [Hb]; · iexact Hb
  isplitl [Hs]; · iexact Hs
  iexact Hr

theorem above_owed : above 0 owed = true := by decide +kernel
theorem waits (c : Dev nD) : (levAts L lv : sProp 𝕄) ⊢ Pipeline.cellsWaits cfgs (dats m ρ) () 0 c :=
  Pipeline.cellsWaits_intro cfgs (dats m ρ) () 0 c fun w s t => by
    have hn : clv (ck (.dma ((cfg0.win w).sem s))) ≤ 0 := by fin_cases w <;> fin_cases s <;> decide
    rcases t with ⟨_ | _, ht⟩
    · exact mayWait c _ 0 hn owed above_owed
    · exact mayWait c _ 0 hn [] rfl

/-! ## The run -/

/-- What a window's array holds in the end. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every fair run of the program on the mesh ends, each device's
arrays hold what was computed, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.KernelIdeal.AG
-- ==== Proof.Value.lean ====
module

public import proofs.«01_k».proof.Proof.Launch
public import proofs.«01_k».proof.Proof.Gen.KernelIdeal.Points
public import Idealize.ShloMosaic.Lib.Layout
public import Idealize.ShloMosaic.Lib.Pipeline.Value

/-! What the result array holds after the run, and that it is the whole array of which the devices' arguments are blocks. -/

@[expose] public section

set_option maxRecDepth 8192

noncomputable section

namespace Cert.KernelIdeal.AG

open Idealize.ShloMosaic Idealize.ShloMosaic.TcCoe
open Idealize.SL Idealize.SL.Sem
open Idealize.ShloMosaic.ValueIdx
open Cert.KernelIdeal.Gen
open Idealize.ShloMosaic.Pipeline (Dat Cfg Window)

variable {F : FTy → Type} [FloatOps F]
variable (m : (ℓ : Loc nD τ sig) → Buf (Elt F) ℓ) (ρ : Dev nD → PrngReg)

/-! ## The windows' blocks are the whole arrays -/

theorem in_emb (i : S512x512.Idx) : (win0_0.blk (0 : Fin 1)).view.emb i = i := by
  refine (show _ = (win0_0.rect (0 : Fin 1)).emb i from rfl).trans ?_
  funext a
  apply Fin.ext
  rw [Rect.emb_apply]
  match a with
  | ⟨0, _⟩ => show 0 * 512 + 1 * (i 0).val = (i 0).val; omega
  | ⟨1, _⟩ => show 0 * 512 + 1 * (i 1).val = (i 1).val; omega

theorem out_emb (i : S2048x512.Idx) : (win0_1.blk (0 : Fin 1)).view.emb i = i := by
  refine (show _ = (win0_1.rect (0 : Fin 1)).emb i from rfl).trans ?_
  funext a
  apply Fin.ext
  rw [Rect.emb_apply]
  match a with
  | ⟨0, _⟩ => show 0 * 2048 + 1 * (i 0).val = (i 0).val; omega
  | ⟨1, _⟩ => show 0 * 512 + 1 * (i 1).val = (i 1).val; omega

/-- A device's input block is its argument array. -/
theorem xin_eq (c : Dev nD) : xin m ρ c = m ((c : Thread nD τ).loc main_arg0) := by
  funext i
  refine (show xin m ρ c i = m ((c : Thread nD τ).loc main_arg0) ((win0_0.blk (0 : Fin 1)).view.emb i) from rfl).trans ?_
  rw [in_emb]

/-- What the one grid point writes back is the gathered array. -/
theorem flushed_eq (c : Dev nD) (t : Fin cfg0.N) :
    (dats m ρ 0 c).flushed (1 : Fin 2) t = ((cfg0.win (1 : Fin 2)).blk t).view.read (Elt F) (OV (xin m ρ) c) := by
  have ht : t = (0 : Fin 1) := fin_N t
  subst ht
  funext i
  refine (show (dats m ρ 0 c).flushed (1 : Fin 2) (0 : Fin 1) i = OV (xin m ρ) c i from rfl).trans ?_
  refine Eq.trans ?_ (show OV (xin m ρ) c ((win0_1.blk (0 : Fin 1)).view.emb i) = _ from rfl)
  rw [out_emb]

/-- That point's block covers the array. -/
theorem cover (i : S2048x512.Idx) : ∃ t : Fin cfg0.N, (cfg0.win (1 : Fin 2)).flush t = true ∧ i ∈ ((cfg0.win (1 : Fin 2)).blk t).view.set := by
  refine ⟨(0 : Fin 1), flush0_1 _, ?_⟩
  have h := (win0_1.blk (0 : Fin 1)).view.emb_mem_set i
  rw [out_emb] at h
  exact h

/-- A device's result array ends at the gathered array. -/
theorem finalA_out (c : Dev nD) : finalA m ρ c (1 : Fin 2) = OV (xin m ρ) c :=
  (dats m ρ 0 c).arrAt_eq_of_cover (1 : Fin 2) (OV (xin m ρ) c) (fun t _ => flushed_eq m ρ c t) cover

/-- After the run: each device's argument as it was, its result the gathered array, every counter zero. -/
theorem run_value : θ_run defs (onTc (τ := τ) (main (F := F))) ⟨m, fun _ => 0, ρ⟩ (fun r =>
    (∀ c : Dev nD, r.2.mem ((c : Thread nD τ).loc main_v1) = OV (fun d : Dev nD => m ((d : Thread nD τ).loc main_arg0)) c
      ∧ r.2.mem ((c : Thread nD τ).loc main_arg0) = m ((c : Thread nD τ).loc main_arg0)) ∧ r.2.sem = fun _ => 0) :=
  (θ_run defs _ _).mono (fun r h => ⟨fun c => ⟨by
      have h1 := (h.1 c (1 : Fin 2)).trans (finalA_out m ρ c)
      rw [show xin m ρ = fun d : Dev nD => m ((d : Thread nD τ).loc main_arg0) from funext (xin_eq m ρ)] at h1
      exact h1, (h.1 c (0 : Fin 2)).trans (finalA_in m ρ c)⟩, h.2⟩) (run_main m ρ)

/-! ## Blocks of one array gathered are that array -/

/-- The block of rows a device holds: the four blocks numbered by the mesh's second coordinate. -/
theorem block_at {α : Type} (v : S2048x512.Idx → α) (c : Dev nD) (i : S512x512.Idx) :
    (Layout.blockN ⟨2, ![512, 512]⟩ ⟨2, ![2048, 512]⟩ (Layout.meshBlock [2, 4, 4] ![[1], []] c) v : S512x512.Idx → α) i
      = v (ix2 (n0 := 2048) (n1 := 512) (Fin.ofNat 2048 (512 * yN c + (i 0).val)) (i 1)) := by
  rw [Layout.blockN_apply]
  congr 1
  funext a
  apply Fin.ext
  have h0 : (i 0).val < 512 := (i 0).isLt
  have hy : c.val / 4 % 4 < 4 := Nat.mod_lt _ (by omega)
  rw [Layout.TilesN.idx_val]
  match a with
  | ⟨0, _⟩ =>
    show (c.val / 4 % 4 * 1 + 0) * 512 + (i 0).val = (512 * (c.val / 4 % 4) + (i 0).val) % 2048
    rw [Nat.mod_eq_of_lt (show 512 * (c.val / 4 % 4) + (i 0).val < 2048 by omega)]; omega
  | ⟨1, _⟩ => show 0 * 512 + (i 1).val = (i 1).val; omega

/-- If every device's block is its part of `v`, what is gathered is `v` on every device. -/
theorem gathered_whole (v : Vec F S2048x512 .f32) (X : Dev nD → Vec F S512x512 .f32)
    (hX : ∀ c : Dev nD, X c = Layout.blockN ⟨2, ![512, 512]⟩ ⟨2, ![2048, 512]⟩ (Layout.meshBlock [2, 4, 4] ![[1], []] c) v) (c : Dev nD) :
    OV X c = v := by
  have hv : ∀ (d : Dev nD) (j : S512x512.Idx), X d j = v (ix2 (n0 := 2048) (n1 := 512) (Fin.ofNat 2048 (512 * yN d + (j 0).val)) (j 1)) :=
    fun d j => (congrFun (hX d) j).trans (block_at v d j)
  funext i
  have hi : (i 0).val < 2048 := (i 0).isLt
  have hc : c.val < 32 := c.isLt
  have key : ∀ (n : ℕ), n = (i 0).val → v (ix2 (n0 := 2048) (n1 := 512) (Fin.ofNat 2048 n) (i 1)) = v i := fun n hn => by
    congr 1
    funext a
    apply Fin.ext
    match a with
    | ⟨0, _⟩ => show n % 2048 = (i 0).val; omega
    | ⟨1, _⟩ => rfl
  unfold OV
  split
  · rename_i h
    rw [hv]
    refine key _ ?_
    show 512 * yN c + (i 0).val % 512 % 512 = _
    omega
  · unfold OWN
    rw [hv]
    refine key _ ?_
    show 512 * ((16 * ((i 0).val % 512 / 256) + 4 * ((i 0).val / 512) + c.val % 4) % 32 / 4 % 4)
      + (256 * ((16 * ((i 0).val % 512 / 256) + 4 * ((i 0).val / 512) + c.val % 4) % 32 / 16) + (i 0).val % 256 % 256) % 512 = _
    have hz : c.val % 4 < 4 := Nat.mod_lt _ (by omega)
    have hx : (i 0).val % 512 / 256 < 2 := by omega
    have hy : (i 0).val / 512 < 4 := by omega
    have hr : (i 0).val = 512 * ((i 0).val / 512) + 256 * ((i 0).val % 512 / 256) + (i 0).val % 256 := by omega
    have hq : (i 0).val % 256 < 256 := Nat.mod_lt _ (by omega)
    rw [Nat.mod_mod]
    generalize (i 0).val % 512 / 256 = x at *
    generalize (i 0).val / 512 = y at *
    generalize (i 0).val % 256 = q at *
    generalize c.val % 4 = z at *
    have e : (16 * x + 4 * y + z) % 32 = 16 * x + 4 * y + z := Nat.mod_eq_of_lt (by omega)
    have e4 : (16 * x + 4 * y + z) / 4 % 4 = y := by omega
    have e16 : (16 * x + 4 * y + z) / 16 = x := by omega
    have e512 : (256 * x + q) % 512 = 256 * x + q := Nat.mod_eq_of_lt (by omega)
    rw [e, e4, e16, e512]
    omega

end Cert.KernelIdeal.AG

end
-- ==== Proof.Claims.lean ====
module

public import proofs.«01_k».proof.Defs
public import proofs.«01_k».proof.Proof.Value
public import proofs.«01_k».proof.Proof.Gen.Kernel
public import proofs.«01_k».proof.Proof.Gen.ReferenceIdeal
public import Idealize.ShloMosaic.Lib.StableHlo.Run
public import Idealize.ShloMosaic.Lib.Quiescent

/-! The claims, each from the kernel's one run or the reference's. -/

@[expose] public section

noncomputable section

namespace Cert.ReferenceIdeal.AG

open Cert.ReferenceIdeal Cert.ReferenceIdeal.Gen Idealize.ShloMosaic Idealize.ShloMosaic.TcCoe Idealize.ShloMosaic.StableHlo Idealize.SL.Sem

variable {F : FTy → Type} [FloatOps F]

/-- The reference has no operation: it returns its argument. -/
abbrev noOps : List (HloOp τ sig (Elt F)) := []

theorem main_eq (c : Dev nD) : main (F := F) c = seq noOps := rfl
theorem no_refs : (Finset.univ.filter fun b : Ref sig .tc => b.isScoped) = ∅ := by decide
theorem no_cells : (Finset.univ.filter fun sm : SemLoc sig => sm.isScoped .tc) = ∅ := by decide

/-- The reference runs and leaves its argument, which is its result, as it was. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq no_refs no_cells defs main (fun _ => noOps) main_eq (fun _ => trivial) m ρ)

end Cert.ReferenceIdeal.AG

namespace Cert.Claims

open Idealize.ShloMosaic Idealize.SL.Sem

/-- The idealized kernel runs, keeps its arguments, and ends with every counter zero. -/
theorem frame_kernelIdeal : Cert.quiescent_KernelIdeal := fun m ρ _ =>
  (θ_run Cert.KernelIdeal.defs _ _).mono (fun _ h => ⟨fun c => (h.1 c).2, h.2⟩) (Cert.KernelIdeal.AG.run_value (F := Ideal) m ρ)

/-- The kernel's bodies are the idealized kernel's: the programs have one text. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- So are the tables of bodies with the pipeline's own. -/
theorem defs_eq : Cert.Kernel.defs (F := Bits) = Cert.KernelIdeal.defs (F := Bits) := by
  unfold Cert.Kernel.defs Cert.KernelIdeal.defs
  exact congrArg (Pipeline.defs Cert.KernelIdeal.pcfgs) defs₀_eq

/-- The kernel runs on words, keeps its arguments, and ends with every counter zero: the same run at words. -/
theorem frame_kernel : Cert.quiescent_Kernel := by
  intro m ρ _
  rw [defs_eq]
  exact (θ_run Cert.KernelIdeal.defs _ _).mono (fun _ h => ⟨fun c => (h.1 c).2, h.2⟩) (Cert.KernelIdeal.AG.run_value (F := Bits) m ρ)

/-- The reference runs, keeps its argument, and has no counter. -/
theorem frame_referenceIdeal : Cert.quiescent_ReferenceIdeal := fun m ρ _ =>
  (θ_run Cert.ReferenceIdeal.defs _ _).mono (fun r h => ⟨h, sem_eq_zero_of_no_sems (by decide) r.2⟩)
    (Cert.ReferenceIdeal.AG.run_ref (F := Ideal) m ρ)

/-- No operation was replaced in the idealization. -/
theorem preserves : Cert.preserves_Kernel_KernelIdeal := trivial

/-- From blocks of one array, every device of the kernel ends holding that array, which is what the reference returns. -/
theorem algebraic : Cert.algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨((h.1 c).1).trans (Cert.KernelIdeal.AG.gathered_whole (F := Ideal) _ _ hm c), (h.1 c).2⟩)
      (Cert.KernelIdeal.AG.run_value (F := Ideal) m g),
    (θ_run Cert.ReferenceIdeal.defs _ _).mono (fun _ h => ⟨h 0, h 0⟩) (Cert.ReferenceIdeal.AG.run_ref (F := Ideal) m' g')⟩

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The five claims: three frames, the idealization, the value. -/
theorem claim : Cert.Claim := ⟨Cert.Kernel.Gen.facts, Cert.KernelIdeal.Gen.facts, Cert.ReferenceIdeal.Gen.facts,
  Cert.Claims.frame_kernel, Cert.Claims.frame_kernelIdeal, Cert.Claims.frame_referenceIdeal, Cert.Claims.preserves, Cert.Claims.algebraic⟩

end Cert.Proof

end
